-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_v204) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x64x80x200 : Shape := ⟨4, ![32, 64, 80, 200]⟩
abbrev S64x64x3x3 : Shape := ⟨4, ![64, 64, 3, 3]⟩
abbrev S64 : Shape := ⟨1, ![64]⟩
abbrev S1x64x1x1 : Shape := ⟨4, ![1, 64, 1, 1]⟩
abbrev S1 : Shape := ⟨1, ![1]⟩
abbrev S2x64x1x1 : Shape := ⟨4, ![2, 64, 1, 1]⟩
abbrev S2 : Shape := ⟨1, ![2]⟩
abbrev S64x3x3x64 : Shape := ⟨4, ![64, 3, 3, 64]⟩
abbrev S64x576 : Shape := ⟨2, ![64, 576]⟩
abbrev S128x576 : Shape := ⟨2, ![128, 576]⟩
abbrev S64x1 : Shape := ⟨2, ![64, 1]⟩
abbrev S128 : Shape := ⟨1, ![128]⟩
abbrev S128x1 : Shape := ⟨2, ![128, 1]⟩
abbrev S1x64 : Shape := ⟨2, ![1, 64]⟩
abbrev S2x64 : Shape := ⟨2, ![2, 64]⟩
abbrev S_ : Shape := ⟨0, ![]⟩
abbrev S2x128 : Shape := ⟨2, ![2, 128]⟩
abbrev S4x128 : Shape := ⟨2, ![4, 128]⟩
abbrev S1x1 : Shape := ⟨2, ![1, 1]⟩
abbrev S4 : Shape := ⟨1, ![4]⟩
abbrev S4x1 : Shape := ⟨2, ![4, 1]⟩
abbrev S32x64x16000 : Shape := ⟨3, ![32, 64, 16000]⟩
abbrev S32x1x16000 : Shape := ⟨3, ![32, 1, 16000]⟩
abbrev S32x4x16000 : Shape := ⟨3, ![32, 4, 16000]⟩
abbrev S1x64x16000 : Shape := ⟨3, ![1, 64, 16000]⟩
abbrev S1x1x16000 : Shape := ⟨3, ![1, 1, 16000]⟩
abbrev S1x4x16000 : Shape := ⟨3, ![1, 4, 16000]⟩
abbrev S576x16512 : Shape := ⟨2, ![576, 16512]⟩
abbrev S1x16000 : Shape := ⟨2, ![1, 16000]⟩
abbrev S64x16000 : Shape := ⟨2, ![64, 16000]⟩
abbrev S64x457 : Shape := ⟨2, ![64, 457]⟩
abbrev S64x55 : Shape := ⟨2, ![64, 55]⟩
abbrev S64x456 : Shape := ⟨2, ![64, 456]⟩
abbrev S64x56 : Shape := ⟨2, ![64, 56]⟩
abbrev S64x455 : Shape := ⟨2, ![64, 455]⟩
abbrev S64x57 : Shape := ⟨2, ![64, 57]⟩
abbrev S64x257 : Shape := ⟨2, ![64, 257]⟩
abbrev S64x255 : Shape := ⟨2, ![64, 255]⟩
abbrev S64x256 : Shape := ⟨2, ![64, 256]⟩
abbrev S576x4096 : Shape := ⟨2, ![576, 4096]⟩
abbrev S64x4096 : Shape := ⟨2, ![64, 4096]⟩
abbrev S1x4096 : Shape := ⟨2, ![1, 4096]⟩
abbrev S1x1x4096 : Shape := ⟨3, ![1, 1, 4096]⟩
abbrev S576x3712 : Shape := ⟨2, ![576, 3712]⟩
abbrev S64x3712 : Shape := ⟨2, ![64, 3712]⟩
abbrev S1x3712 : Shape := ⟨2, ![1, 3712]⟩
abbrev S1x1x3712 : Shape := ⟨3, ![1, 1, 3712]⟩
abbrev S128x4096 : Shape := ⟨2, ![128, 4096]⟩
abbrev S4x4096 : Shape := ⟨2, ![4, 4096]⟩
abbrev S1x4x4096 : Shape := ⟨3, ![1, 4, 4096]⟩
abbrev S128x3712 : Shape := ⟨2, ![128, 3712]⟩
abbrev S4x3712 : Shape := ⟨2, ![4, 3712]⟩
abbrev S1x4x3712 : Shape := ⟨3, ![1, 4, 3712]⟩
abbrev S32x1x80x200 : Shape := ⟨4, ![32, 1, 80, 200]⟩
abbrev S32x2x16000 : Shape := ⟨3, ![32, 2, 16000]⟩
abbrev S32x2x80x200 : Shape := ⟨4, ![32, 2, 80, 200]⟩

abbrev nBuf : Space → Nat
  | .hbm => 48
  | .vmem => 18
  | .smem => 0
  | _ => 0

abbrev bufTy : (tb : Table) → Fin (tcTables nBuf tb) → BufTy
  | .hbm, ⟨0, _⟩ => ⟨S32x64x80x200, .f32⟩
  | .hbm, ⟨1, _⟩ => ⟨S32x64x80x200, .f32⟩
  | .hbm, ⟨2, _⟩ => ⟨S64x64x3x3, .f32⟩
  | .hbm, ⟨3, _⟩ => ⟨S64, .f32⟩
  | .hbm, ⟨4, _⟩ => ⟨S1x64x1x1, .f32⟩
  | .hbm, ⟨5, _⟩ => ⟨S1, .f32⟩
  | .hbm, ⟨6, _⟩ => ⟨S64x64x3x3, .f32⟩
  | .hbm, ⟨7, _⟩ => ⟨S64, .f32⟩
  | .hbm, ⟨8, _⟩ => ⟨S2x64x1x1, .f32⟩
  | .hbm, ⟨9, _⟩ => ⟨S2, .f32⟩
  | .hbm, ⟨10, _⟩ => ⟨S64x64x3x3, .f32⟩
  | .hbm, ⟨11, _⟩ => ⟨S64, .f32⟩
  | .hbm, ⟨12, _⟩ => ⟨S2x64x1x1, .f32⟩
  | .hbm, ⟨13, _⟩ => ⟨S2, .f32⟩
  | .hbm, ⟨14, _⟩ => ⟨S64x3x3x64, .f32⟩
  | .hbm, ⟨15, _⟩ => ⟨S64x576, .f32⟩
  | .hbm, ⟨16, _⟩ => ⟨S64x576, .bf16⟩
  | .hbm, ⟨17, _⟩ => ⟨S64x3x3x64, .f32⟩
  | .hbm, ⟨18, _⟩ => ⟨S64x576, .f32⟩
  | .hbm, ⟨19, _⟩ => ⟨S64x3x3x64, .f32⟩
  | .hbm, ⟨20, _⟩ => ⟨S64x576, .f32⟩
  | .hbm, ⟨21, _⟩ => ⟨S128x576, .f32⟩
  | .hbm, ⟨22, _⟩ => ⟨S128x576, .bf16⟩
  | .hbm, ⟨23, _⟩ => ⟨S64x1, .f32⟩
  | .hbm, ⟨24, _⟩ => ⟨S128, .f32⟩
  | .hbm, ⟨25, _⟩ => ⟨S128x1, .f32⟩
  | .hbm, ⟨26, _⟩ => ⟨S1x64, .f32⟩
  | .hbm, ⟨27, _⟩ => ⟨S1x64, .bf16⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x128, .f32⟩
  | .hbm, ⟨33, _⟩ => ⟨S2x128, .f32⟩
  | .hbm, ⟨34, _⟩ => ⟨S4x128, .f32⟩
  | .hbm, ⟨35, _⟩ => ⟨S4x128, .bf16⟩
  | .hbm, ⟨36, _⟩ => ⟨S1x1, .f32⟩
  | .hbm, ⟨37, _⟩ => ⟨S4, .f32⟩
  | .hbm, ⟨38, _⟩ => ⟨S4x1, .f32⟩
  | .hbm, ⟨39, _⟩ => ⟨S32x64x16000, .f32⟩
  | .hbm, ⟨40, _⟩ => ⟨S32x64x16000, .f32⟩
  | .hbm, ⟨41, _⟩ => ⟨S32x1x16000, .f32⟩
  | .hbm, ⟨42, _⟩ => ⟨S32x4x16000, .f32⟩
  | .hbm, ⟨43, _⟩ => ⟨S32x1x80x200, .f32⟩
  | .hbm, ⟨44, _⟩ => ⟨S32x2x16000, .f32⟩
  | .hbm, ⟨45, _⟩ => ⟨S32x2x80x200, .f32⟩
  | .hbm, ⟨46, _⟩ => ⟨S32x2x16000, .f32⟩
  | .hbm, ⟨47, _⟩ => ⟨S32x2x80x200, .f32⟩
  | .local _ .vmem, ⟨0, _⟩ => ⟨S1x64x16000, .f32⟩
  | .local _ .vmem, ⟨1, _⟩ => ⟨S1x64x16000, .f32⟩
  | .local _ .vmem, ⟨2, _⟩ => ⟨S1x64x16000, .f32⟩
  | .local _ .vmem, ⟨3, _⟩ => ⟨S1x64x16000, .f32⟩
  | .local _ .vmem, ⟨4, _⟩ => ⟨S64x576, .bf16⟩
  | .local _ .vmem, ⟨5, _⟩ => ⟨S64x1, .f32⟩
  | .local _ .vmem, ⟨6, _⟩ => ⟨S1x64, .bf16⟩
  | .local _ .vmem, ⟨7, _⟩ => ⟨S1x1, .f32⟩
  | .local _ .vmem, ⟨8, _⟩ => ⟨S128x576, .bf16⟩
  | .local _ .vmem, ⟨9, _⟩ => ⟨S128x1, .f32⟩
  | .local _ .vmem, ⟨10, _⟩ => ⟨S4x128, .bf16⟩
  | .local _ .vmem, ⟨11, _⟩ => ⟨S4x1, .f32⟩
  | .local _ .vmem, ⟨12, _⟩ => ⟨S1x1x16000, .f32⟩
  | .local _ .vmem, ⟨13, _⟩ => ⟨S1x1x16000, .f32⟩
  | .local _ .vmem, ⟨14, _⟩ => ⟨S1x4x16000, .f32⟩
  | .local _ .vmem, ⟨15, _⟩ => ⟨S1x4x16000, .f32⟩
  | .local _ .vmem, ⟨16, _⟩ => ⟨S576x16512, .bf16⟩
  | .local _ .vmem, ⟨17, _⟩ => ⟨S576x16512, .bf16⟩
  | _, _ => ⟨S32x64x80x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x16000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x576 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x576 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x16000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x16000 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S32x64x80x200 : Shape := ⟨4, ![32, 64, 80, 200]⟩
abbrev S64x64x3x3 : Shape := ⟨4, ![64, 64, 3, 3]⟩
abbrev S64 : Shape := ⟨1, ![64]⟩
abbrev S1x64x1x1 : Shape := ⟨4, ![1, 64, 1, 1]⟩
abbrev S1 : Shape := ⟨1, ![1]⟩
abbrev S2x64x1x1 : Shape := ⟨4, ![2, 64, 1, 1]⟩
abbrev S2 : Shape := ⟨1, ![2]⟩
abbrev S_ : Shape := ⟨0, ![]⟩
abbrev S32x64x82x202 : Shape := ⟨4, ![32, 64, 82, 202]⟩
abbrev S64x64x1x1 : Shape := ⟨4, ![64, 64, 1, 1]⟩
abbrev S64x64 : Shape := ⟨2, ![64, 64]⟩
abbrev S32x80x200x64 : Shape := ⟨4, ![32, 80, 200, 64]⟩
abbrev S1x64 : Shape := ⟨2, ![1, 64]⟩
abbrev S32x80x200x1 : Shape := ⟨4, ![32, 80, 200, 1]⟩
abbrev S32x1x80x200 : Shape := ⟨4, ![32, 1, 80, 200]⟩
abbrev S1x1x1x1 : Shape := ⟨4, ![1, 1, 1, 1]⟩
abbrev S2x64 : Shape := ⟨2, ![2, 64]⟩
abbrev S32x80x200x2 : Shape := ⟨4, ![32, 80, 200, 2]⟩
abbrev S32x2x80x200 : Shape := ⟨4, ![32, 2, 80, 200]⟩
abbrev S1x2x1x1 : Shape := ⟨4, ![1, 2, 1, 1]⟩

abbrev nBuf : Space → Nat
  | .hbm => 243
  | .vmem => 0
  | .smem => 0
  | _ => 0

abbrev hbmTy0_0 (i : Nat) : BufTy := match i % 128 with
  | 0 => ⟨S32x64x80x200, .f32⟩
  | 1 => ⟨S32x64x80x200, .f32⟩
  | 2 => ⟨S64x64x3x3, .f32⟩
  | 3 => ⟨S64, .f32⟩
  | 4 => ⟨S1x64x1x1, .f32⟩
  | 5 => ⟨S1, .f32⟩
  | 6 => ⟨S64x64x3x3, .f32⟩
  | 7 => ⟨S64, .f32⟩
  | 8 => ⟨S2x64x1x1, .f32⟩
  | 9 => ⟨S2, .f32⟩
  | 10 => ⟨S64x64x3x3, .f32⟩
  | 11 => ⟨S64, .f32⟩
  | 12 => ⟨S2x64x1x1, .f32⟩
  | 13 => ⟨S2, .f32⟩
  | 14 => ⟨S_, .i32⟩
  | 15 => ⟨S_, .f32⟩
  | 16 => ⟨S32x64x82x202, .f32⟩
  | 17 => ⟨S64x64x1x1, .f32⟩
  | 18 => ⟨S64x64, .f32⟩
  | 19 => ⟨S32x64x80x200, .f32⟩
  | 20 => ⟨S32x80x200x64, .f32⟩
  | 21 => ⟨S32x64x80x200, .f32⟩
  | 22 => ⟨S_, .f32⟩
  | 23 => ⟨S32x64x80x200, .f32⟩
  | 24 => ⟨S32x64x80x200, .f32⟩
  | 25 => ⟨S64x64x1x1, .f32⟩
  | 26 => ⟨S64x64, .f32⟩
  | 27 => ⟨S32x64x80x200, .f32⟩
  | 28 => ⟨S32x80x200x64, .f32⟩
  | 29 => ⟨S32x64x80x200, .f32⟩
  | 30 => ⟨S32x64x80x200, .f32⟩
  | 31 => ⟨S64x64x1x1, .f32⟩
  | 32 => ⟨S64x64, .f32⟩
  | 33 => ⟨S32x64x80x200, .f32⟩
  | 34 => ⟨S32x80x200x64, .f32⟩
  | 35 => ⟨S32x64x80x200, .f32⟩
  | 36 => ⟨S32x64x80x200, .f32⟩
  | 37 => ⟨S64x64x1x1, .f32⟩
  | 38 => ⟨S64x64, .f32⟩
  | 39 => ⟨S32x64x80x200, .f32⟩
  | 40 => ⟨S32x80x200x64, .f32⟩
  | 41 => ⟨S32x64x80x200, .f32⟩
  | 42 => ⟨S32x64x80x200, .f32⟩
  | 43 => ⟨S64x64x1x1, .f32⟩
  | 44 => ⟨S64x64, .f32⟩
  | 45 => ⟨S32x64x80x200, .f32⟩
  | 46 => ⟨S32x80x200x64, .f32⟩
  | 47 => ⟨S32x64x80x200, .f32⟩
  | 48 => ⟨S32x64x80x200, .f32⟩
  | 49 => ⟨S64x64x1x1, .f32⟩
  | 50 => ⟨S64x64, .f32⟩
  | 51 => ⟨S32x64x80x200, .f32⟩
  | 52 => ⟨S32x80x200x64, .f32⟩
  | 53 => ⟨S32x64x80x200, .f32⟩
  | 54 => ⟨S32x64x80x200, .f32⟩
  | 55 => ⟨S64x64x1x1, .f32⟩
  | 56 => ⟨S64x64, .f32⟩
  | 57 => ⟨S32x64x80x200, .f32⟩
  | 58 => ⟨S32x80x200x64, .f32⟩
  | 59 => ⟨S32x64x80x200, .f32⟩
  | 60 => ⟨S32x64x80x200, .f32⟩
  | 61 => ⟨S64x64x1x1, .f32⟩
  | 62 => ⟨S64x64, .f32⟩
  | 63 => ⟨S32x64x80x200, .f32⟩
  | 64 => ⟨S32x80x200x64, .f32⟩
  | 65 => ⟨S32x64x80x200, .f32⟩
  | 66 => ⟨S32x64x80x200, .f32⟩
  | 67 => ⟨S64x64x1x1, .f32⟩
  | 68 => ⟨S64x64, .f32⟩
  | 69 => ⟨S32x64x80x200, .f32⟩
  | 70 => ⟨S32x80x200x64, .f32⟩
  | 71 => ⟨S32x64x80x200, .f32⟩
  | 72 => ⟨S32x64x80x200, .f32⟩
  | 73 => ⟨S1x64x1x1, .f32⟩
  | 74 => ⟨S32x64x80x200, .f32⟩
  | 75 => ⟨S32x64x80x200, .f32⟩
  | 76 => ⟨S_, .f32⟩
  | 77 => ⟨S32x64x80x200, .f32⟩
  | 78 => ⟨S32x64x80x200, .f32⟩
  | 79 => ⟨S1x64, .f32⟩
  | 80 => ⟨S32x80x200x1, .f32⟩
  | 81 => ⟨S32x1x80x200, .f32⟩
  | 82 => ⟨S1x1x1x1, .f32⟩
  | 83 => ⟨S32x1x80x200, .f32⟩
  | 84 => ⟨S32x1x80x200, .f32⟩
  | 85 => ⟨S32x1x80x200, .f32⟩
  | 86 => ⟨S32x1x80x200, .f32⟩
  | 87 => ⟨S_, .f32⟩
  | 88 => ⟨S32x1x80x200, .f32⟩
  | 89 => ⟨S32x1x80x200, .f32⟩
  | 90 => ⟨S_, .f32⟩
  | 91 => ⟨S32x1x80x200, .f32⟩
  | 92 => ⟨S32x1x80x200, .f32⟩
  | 93 => ⟨S_, .f32⟩
  | 94 => ⟨S_, .f32⟩
  | 95 => ⟨S_, .f32⟩
  | 96 => ⟨S32x1x80x200, .f32⟩
  | 97 => ⟨S32x1x80x200, .f32⟩
  | 98 => ⟨S_, .f32⟩
  | 99 => ⟨S32x1x80x200, .f32⟩
  | 100 => ⟨S32x1x80x200, .f32⟩
  | 101 => ⟨S_, .i32⟩
  | 102 => ⟨S_, .f32⟩
  | 103 => ⟨S32x64x82x202, .f32⟩
  | 104 => ⟨S64x64x1x1, .f32⟩
  | 105 => ⟨S64x64, .f32⟩
  | 106 => ⟨S32x64x80x200, .f32⟩
  | 107 => ⟨S32x80x200x64, .f32⟩
  | 108 => ⟨S32x64x80x200, .f32⟩
  | 109 => ⟨S_, .f32⟩
  | 110 => ⟨S32x64x80x200, .f32⟩
  | 111 => ⟨S32x64x80x200, .f32⟩
  | 112 => ⟨S64x64x1x1, .f32⟩
  | 113 => ⟨S64x64, .f32⟩
  | 114 => ⟨S32x64x80x200, .f32⟩
  | 115 => ⟨S32x80x200x64, .f32⟩
  | 116 => ⟨S32x64x80x200, .f32⟩
  | 117 => ⟨S32x64x80x200, .f32⟩
  | 118 => ⟨S64x64x1x1, .f32⟩
  | 119 => ⟨S64x64, .f32⟩
  | 120 => ⟨S32x64x80x200, .f32⟩
  | 121 => ⟨S32x80x200x64, .f32⟩
  | 122 => ⟨S32x64x80x200, .f32⟩
  | 123 => ⟨S32x64x80x200, .f32⟩
  | 124 => ⟨S64x64x1x1, .f32⟩
  | 125 => ⟨S64x64, .f32⟩
  | 126 => ⟨S32x64x80x200, .f32⟩
  | 127 => ⟨S32x80x200x64, .f32⟩
  | _ => ⟨S32x64x80x200, .f32⟩

abbrev hbmTy0_1 (i : Nat) : BufTy := match i % 128 with
  | 0 => ⟨S32x64x80x200, .f32⟩
  | 1 => ⟨S32x64x80x200, .f32⟩
  | 2 => ⟨S64x64x1x1, .f32⟩
  | 3 => ⟨S64x64, .f32⟩
  | 4 => ⟨S32x64x80x200, .f32⟩
  | 5 => ⟨S32x80x200x64, .f32⟩
  | 6 => ⟨S32x64x80x200, .f32⟩
  | 7 => ⟨S32x64x80x200, .f32⟩
  | 8 => ⟨S64x64x1x1, .f32⟩
  | 9 => ⟨S64x64, .f32⟩
  | 10 => ⟨S32x64x80x200, .f32⟩
  | 11 => ⟨S32x80x200x64, .f32⟩
  | 12 => ⟨S32x64x80x200, .f32⟩
  | 13 => ⟨S32x64x80x200, .f32⟩
  | 14 => ⟨S64x64x1x1, .f32⟩
  | 15 => ⟨S64x64, .f32⟩
  | 16 => ⟨S32x64x80x200, .f32⟩
  | 17 => ⟨S32x80x200x64, .f32⟩
  | 18 => ⟨S32x64x80x200, .f32⟩
  | 19 => ⟨S32x64x80x200, .f32⟩
  | 20 => ⟨S64x64x1x1, .f32⟩
  | 21 => ⟨S64x64, .f32⟩
  | 22 => ⟨S32x64x80x200, .f32⟩
  | 23 => ⟨S32x80x200x64, .f32⟩
  | 24 => ⟨S32x64x80x200, .f32⟩
  | 25 => ⟨S32x64x80x200, .f32⟩
  | 26 => ⟨S64x64x1x1, .f32⟩
  | 27 => ⟨S64x64, .f32⟩
  | 28 => ⟨S32x64x80x200, .f32⟩
  | 29 => ⟨S32x80x200x64, .f32⟩
  | 30 => ⟨S32x64x80x200, .f32⟩
  | 31 => ⟨S32x64x80x200, .f32⟩
  | 32 => ⟨S1x64x1x1, .f32⟩
  | 33 => ⟨S32x64x80x200, .f32⟩
  | 34 => ⟨S32x64x80x200, .f32⟩
  | 35 => ⟨S_, .f32⟩
  | 36 => ⟨S32x64x80x200, .f32⟩
  | 37 => ⟨S32x64x80x200, .f32⟩
  | 38 => ⟨S2x64, .f32⟩
  | 39 => ⟨S32x80x200x2, .f32⟩
  | 40 => ⟨S32x2x80x200, .f32⟩
  | 41 => ⟨S1x2x1x1, .f32⟩
  | 42 => ⟨S32x2x80x200, .f32⟩
  | 43 => ⟨S32x2x80x200, .f32⟩
  | 44 => ⟨S_, .i32⟩
  | 45 => ⟨S_, .f32⟩
  | 46 => ⟨S32x64x82x202, .f32⟩
  | 47 => ⟨S64x64x1x1, .f32⟩
  | 48 => ⟨S64x64, .f32⟩
  | 49 => ⟨S32x64x80x200, .f32⟩
  | 50 => ⟨S32x80x200x64, .f32⟩
  | 51 => ⟨S32x64x80x200, .f32⟩
  | 52 => ⟨S_, .f32⟩
  | 53 => ⟨S32x64x80x200, .f32⟩
  | 54 => ⟨S32x64x80x200, .f32⟩
  | 55 => ⟨S64x64x1x1, .f32⟩
  | 56 => ⟨S64x64, .f32⟩
  | 57 => ⟨S32x64x80x200, .f32⟩
  | 58 => ⟨S32x80x200x64, .f32⟩
  | 59 => ⟨S32x64x80x200, .f32⟩
  | 60 => ⟨S32x64x80x200, .f32⟩
  | 61 => ⟨S64x64x1x1, .f32⟩
  | 62 => ⟨S64x64, .f32⟩
  | 63 => ⟨S32x64x80x200, .f32⟩
  | 64 => ⟨S32x80x200x64, .f32⟩
  | 65 => ⟨S32x64x80x200, .f32⟩
  | 66 => ⟨S32x64x80x200, .f32⟩
  | 67 => ⟨S64x64x1x1, .f32⟩
  | 68 => ⟨S64x64, .f32⟩
  | 69 => ⟨S32x64x80x200, .f32⟩
  | 70 => ⟨S32x80x200x64, .f32⟩
  | 71 => ⟨S32x64x80x200, .f32⟩
  | 72 => ⟨S32x64x80x200, .f32⟩
  | 73 => ⟨S64x64x1x1, .f32⟩
  | 74 => ⟨S64x64, .f32⟩
  | 75 => ⟨S32x64x80x200, .f32⟩
  | 76 => ⟨S32x80x200x64, .f32⟩
  | 77 => ⟨S32x64x80x200, .f32⟩
  | 78 => ⟨S32x64x80x200, .f32⟩
  | 79 => ⟨S64x64x1x1, .f32⟩
  | 80 => ⟨S64x64, .f32⟩
  | 81 => ⟨S32x64x80x200, .f32⟩
  | 82 => ⟨S32x80x200x64, .f32⟩
  | 83 => ⟨S32x64x80x200, .f32⟩
  | 84 => ⟨S32x64x80x200, .f32⟩
  | 85 => ⟨S64x64x1x1, .f32⟩
  | 86 => ⟨S64x64, .f32⟩
  | 87 => ⟨S32x64x80x200, .f32⟩
  | 88 => ⟨S32x80x200x64, .f32⟩
  | 89 => ⟨S32x64x80x200, .f32⟩
  | 90 => ⟨S32x64x80x200, .f32⟩
  | 91 => ⟨S64x64x1x1, .f32⟩
  | 92 => ⟨S64x64, .f32⟩
  | 93 => ⟨S32x64x80x200, .f32⟩
  | 94 => ⟨S32x80x200x64, .f32⟩
  | 95 => ⟨S32x64x80x200, .f32⟩
  | 96 => ⟨S32x64x80x200, .f32⟩
  | 97 => ⟨S64x64x1x1, .f32⟩
  | 98 => ⟨S64x64, .f32⟩
  | 99 => ⟨S32x64x80x200, .f32⟩
  | 100 => ⟨S32x80x200x64, .f32⟩
  | 101 => ⟨S32x64x80x200, .f32⟩
  | 102 => ⟨S32x64x80x200, .f32⟩
  | 103 => ⟨S1x64x1x1, .f32⟩
  | 104 => ⟨S32x64x80x200, .f32⟩
  | 105 => ⟨S32x64x80x200, .f32⟩
  | 106 => ⟨S_, .f32⟩
  | 107 => ⟨S32x64x80x200, .f32⟩
  | 108 => ⟨S32x64x80x200, .f32⟩
  | 109 => ⟨S2x64, .f32⟩
  | 110 => ⟨S32x80x200x2, .f32⟩
  | 111 => ⟨S32x2x80x200, .f32⟩
  | 112 => ⟨S1x2x1x1, .f32⟩
  | 113 => ⟨S32x2x80x200, .f32⟩
  | 114 => ⟨S32x2x80x200, .f32⟩
  | _ => ⟨S32x64x80x200, .f32⟩

abbrev hbmTy (i : Nat) : BufTy := match i / 128 with
  | 0 => hbmTy0_0 i
  | 1 => hbmTy0_1 i
  | _ => ⟨S32x64x80x200, .f32⟩

abbrev bufTy : (tb : Table) → Fin (tcTables nBuf tb) → BufTy
  | .hbm, ⟨i, _⟩ => hbmTy i
  | _, _ => ⟨S32x64x80x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_call1_cst : Ref sig .tc := ⟨.hbm, 76, rfl⟩
abbrev main_call1_v0 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_0 : Ref sig .tc := ⟨.hbm, 87, rfl⟩
abbrev main_v68 : Ref sig .tc := ⟨.hbm, 88, rfl⟩
abbrev main_v69 : Ref sig .tc := ⟨.hbm, 89, rfl⟩
abbrev main_cst_1 : Ref sig .tc := ⟨.hbm, 90, rfl⟩
abbrev main_v70 : Ref sig .tc := ⟨.hbm, 91, rfl⟩
abbrev main_v71 : Ref sig .tc := ⟨.hbm, 92, rfl⟩
abbrev main_cst_2 : Ref sig .tc := ⟨.hbm, 93, rfl⟩
abbrev main_cst_3 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v72 : Ref sig .tc := ⟨.hbm, 100, rfl⟩
abbrev main_c_4 : Ref sig .tc := ⟨.hbm, 101, rfl⟩
abbrev main_call3_v0 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_5 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_call4_cst : Ref sig .tc := ⟨.hbm, 163, rfl⟩
abbrev main_call4_v0 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_c_6 : Ref sig .tc := ⟨.hbm, 172, rfl⟩
abbrev main_call5_v0 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_cst_7 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_call6_cst : Ref sig .tc := ⟨.hbm, 234, rfl⟩
abbrev main_call6_v0 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩

abbrev nD : Nat := 1
abbrev τ : Topo := Topo.v7x

variable {F : FTy → Type} [FloatOps F]
-- ==== Proof.Cols.lean ====
module

public import proofs.«01_k».proof.Proof.Gen.KernelIdeal.Frame
public import Idealize.ShloMosaic.PureOps.Ideal
public import Idealize.ShloMosaic.Lib.Pipeline.ValueKit
public import Idealize.ShloMosaic.Lib.Pipeline.ReadBack
public import Idealize.ShloMosaic.Lib.Pointwise

@[expose] public section

set_option maxRecDepth 16384

/-! The column of a flat position, as the kernel computes it on words. -/

noncomputable section

namespace Cert.KernelIdeal.Pad

open Idealize.ShloMosaic Idealize.ShloMosaic.TcCoe Idealize.SL.Sem
open Cert.KernelIdeal Cert.KernelIdeal.Gen

/-- The remainder the kernel takes of a flat position, word by word, is its column in the image. -/
theorem col_word (p : Fin 16000) : k0_pay3 (ix2 (0 : Fin 1) p) = BitVec.ofNat 32 (p.val % 200) := by
  pointwise [k0_pay3]
  revert p
  decide +kernel

/-- Comparing the column with a literal, as a bit. -/
theorem col_ne (p : Fin 16000) {α : Type} (a : α) (b : α) (n : ℕ) (hn : n < 200) :
    Scalar.select (IntOp.cmpi CmpIPredicate.ne (k0_pay3 (ix2 (0 : Fin 1) p)) (BitVec.ofNat 32 n)) a b
      = if p.val % 200 = n then b else a := by
  rw [col_word]
  have h : IntOp.cmpi CmpIPredicate.ne (BitVec.ofNat 32 (p.val % 200)) (BitVec.ofNat 32 n) = BitVec.ofBool (decide (p.val % 200 ≠ n)) := by
    show BitVec.ofBool (BitVec.ofNat 32 (p.val % 200) != BitVec.ofNat 32 n) = _
    congr 1
    have hp : p.val % 200 < 200 := Nat.mod_lt _ (by norm_num)
    have e : (BitVec.ofNat 32 (p.val % 200) = BitVec.ofNat 32 n) ↔ p.val % 200 = n :=
      ⟨fun h => by
        have := congrArg BitVec.toNat h
        rw [BitVec.toNat_ofNat, BitVec.toNat_ofNat] at this
        omega, fun h => by rw [h]⟩
    by_cases hq : p.val % 200 = n
    · simp [hq]
    · simp [hq, e]
  rw [h]
  by_cases hp : p.val % 200 = n <;> simp [hp, Scalar.select]

end Cert.KernelIdeal.Pad
-- ==== Proof.Pad.lean ====
module

public import proofs.«01_k».proof.Proof.Gen.KernelIdeal.Frame
public import proofs.«01_k».proof.Proof.Cols
public import Idealize.ShloMosaic.PureOps.Ideal
public import Idealize.ShloMosaic.Lib.Pipeline.ValueKit
public import Idealize.ShloMosaic.Lib.Pipeline.ReadBack
public import Idealize.ShloMosaic.Lib.Pointwise

@[expose] public section

set_option maxRecDepth 16384

/-! The tap buffer: what the 27 stores into one scratch buffer leave there. Row `64 * k + c` holds
channel `c` of the image, moved by tap `k` of the 3 × 3 stencil, with zeros around it. -/

noncomputable section

namespace Cert.KernelIdeal.Pad

open Idealize.ShloMosaic Idealize.ShloMosaic.TcCoe Idealize.SL.Sem
open Cert.KernelIdeal Cert.KernelIdeal.Gen

/-- The column at which tap `k`'s copy of the image begins. -/
def off (k : ℕ) : ℕ := 457 - k / 3 * 200 - k % 3

/-- The flat positions tap `k` leaves out: the column of the image that the tap would wrap around. -/
def masked (k p : ℕ) : Prop := (k % 3 = 0 ∧ p % 200 = 199) ∨ (k % 3 = 2 ∧ p % 200 = 0)

instance (k p : ℕ) : Decidable (masked k p) := by unfold masked; infer_instance

/-- The tap buffer's element at row `r`, column `q`. -/
def at_ (x : Vec Ideal S1x64x16000 .f32) (r q : ℕ) : EReal :=
  if h : off (r / 64) ≤ q ∧ q < off (r / 64) + 16000 then
    if masked (r / 64) (q - off (r / 64)) then 0
    else x (ix3 (0 : Fin 1) (⟨r % 64, Nat.mod_lt _ (by norm_num)⟩ : Fin 64) (⟨q - off (r / 64), by omega⟩ : Fin 16000))
  else 0

/-- The tap buffer as one array. -/
def buf (x : Vec Ideal S1x64x16000 .f32) : S576x16512.Idx → EReal := fun y => at_ x (y 0).val (y 1).val

/-- Left and right of a tap's image the tap buffer is zero. -/
theorem at_zero (x : Vec Ideal S1x64x16000 .f32) {w o0 o1 c p : ℕ} (hc : c < 64) (hp : p < w) (hk : o0 % 64 = 0)
    (hz : o1 + w ≤ off (o0 / 64) ∨ off (o0 / 64) + 16000 ≤ o1) : at_ x (o0 + c) (o1 + p) = 0 := by
  have hd : (o0 + c) / 64 = o0 / 64 := by omega
  have hn : ¬(off ((o0 + c) / 64) ≤ o1 + p ∧ o1 + p < off ((o0 + c) / 64) + 16000) := by
    rw [hd]
    omega
  exact dif_neg hn

/-- A block of zeros stored left or right of a tap's image is the tap buffer there. -/
theorem zero_piece (x : Vec Ideal S1x64x16000 .f32) {w o0 o1 : ℕ} (inb) (v : (⟨2, ![64, w]⟩ : Shape).Idx → EReal)
    (hv : ∀ y, v y = 0) (hk : o0 % 64 = 0) (hz : o1 + w ≤ off (o0 / 64) ∨ off (o0 / 64) + 16000 ≤ o1)
    (y : (⟨2, ![64, w]⟩ : Shape).Idx) :
    v y = buf x ((Rect.unit (s := S576x16512) ![o0, o1] ![64, w] inb).emb y) := by
  obtain ⟨c, p, rfl⟩ : ∃ (c : Fin 64) (p : Fin w), y = ix2 c p := ⟨y 0, y 1, eq_ix2 y⟩
  have e0 : (((Rect.unit (s := S576x16512) ![o0, o1] ![64, w] inb).emb (ix2 c p)) 0).val = o0 + c.val :=
    ValueKit.rect_emb_unit_val (s := S576x16512) ![o0, o1] ![64, w] inb (ix2 c p) 0
  have e1 : (((Rect.unit (s := S576x16512) ![o0, o1] ![64, w] inb).emb (ix2 c p)) 1).val = o1 + p.val :=
    ValueKit.rect_emb_unit_val (s := S576x16512) ![o0, o1] ![64, w] inb (ix2 c p) 1
  rw [hv, buf, e0, e1]
  exact (at_zero x c.isLt p.isLt hk hz).symm

/-- A masked copy of the image stored at a tap's place is the tap buffer there. -/
theorem image_piece (x : Vec Ideal S1x64x16000 .f32) {o0 o1 : ℕ} (inb) (v : (⟨2, ![64, 16000]⟩ : Shape).Idx → EReal)
    (hk : o0 % 64 = 0) (ho : o1 = off (o0 / 64))
    (hv : ∀ (c : Fin 64) (p : Fin 16000), v (ix2 c p) = if masked (o0 / 64) p.val then 0 else x (ix3 (0 : Fin 1) c p))
    (y : (⟨2, ![64, 16000]⟩ : Shape).Idx) :
    v y = buf x ((Rect.unit (s := S576x16512) ![o0, o1] ![64, 16000] inb).emb y) := by
  obtain ⟨c, p, rfl⟩ : ∃ (c : Fin 64) (p : Fin 16000), y = ix2 c p := ⟨y 0, y 1, eq_ix2 y⟩
  have e0 : (((Rect.unit (s := S576x16512) ![o0, o1] ![64, 16000] inb).emb (ix2 c p)) 0).val = o0 + c.val :=
    ValueKit.rect_emb_unit_val (s := S576x16512) ![o0, o1] ![64, 16000] inb (ix2 c p) 0
  have e1 : (((Rect.unit (s := S576x16512) ![o0, o1] ![64, 16000] inb).emb (ix2 c p)) 1).val = o1 + p.val :=
    ValueKit.rect_emb_unit_val (s := S576x16512) ![o0, o1] ![64, 16000] inb (ix2 c p) 1
  have hc := c.isLt
  have hp := p.isLt
  rw [hv, buf, e0, e1, at_]
  have hd : (o0 + c.val) / 64 = o0 / 64 := by omega
  have hm : (⟨(o0 + c.val) % 64, Nat.mod_lt _ (by norm_num)⟩ : Fin 64) = c := Fin.ext (by show (o0 + c.val) % 64 = _; omega)
  have hq : ∀ h, (⟨o1 + p.val - off ((o0 + c.val) / 64), h⟩ : Fin 16000) = p := fun h => Fin.ext (by
    show o1 + p.val - off ((o0 + c.val) / 64) = _; rw [hd]; omega)
  rw [dif_pos (by rw [hd]; omega), hm, hq]
  have hs : o1 + p.val - off ((o0 + c.val) / 64) = p.val := by rw [hd]; omega
  rw [hs, hd]

/-- The plain copy of the image. -/
theorem copy_apply (x : Vec Ideal S1x64x16000 .f32) (c : Fin 64) (p : Fin 16000) :
    (k0_pay6 (F := Ideal) x (ix2 c p) : EReal) = x (ix3 (0 : Fin 1) c p) := by
  pointwise [k0_pay6]

/-- The copy that the left column of taps reads: the image without its last column. -/
theorem left_apply (x : Vec Ideal S1x64x16000 .f32) (c : Fin 64) (p : Fin 16000) :
    (k0_pay7 (F := Ideal) x (ix2 c p) : EReal) = if p.val % 200 = 199 then 0 else x (ix3 (0 : Fin 1) c p) := by
  pointwise [k0_pay7, k0_pay5]
  rw [col_ne p _ _ 199 (by norm_num), copy_apply]

/-- The copy that the right column of taps reads: the image without its first column. -/
theorem right_apply (x : Vec Ideal S1x64x16000 .f32) (c : Fin 64) (p : Fin 16000) :
    (k0_pay8 (F := Ideal) x (ix2 c p) : EReal) = if p.val % 200 = 0 then 0 else x (ix3 (0 : Fin 1) c p) := by
  pointwise [k0_pay8, k0_pay4]
  rw [col_ne p _ _ 0 (by norm_num), copy_apply]

/-- The second image's unmasked copy is the same function of it as the first image's. -/
theorem copy2_eq (x : Vec Ideal S1x64x16000 .f32) : k0_pay38 (F := Ideal) x = k0_pay6 x := rfl

/-- The second image's copy without its last column is the same function of it as the first image's. -/
theorem left2_eq (x : Vec Ideal S1x64x16000 .f32) : k0_pay39 (F := Ideal) k0_pay5 x = k0_pay7 x := rfl

/-- The second image's copy without its first column is the same function of it as the first image's. -/
theorem right2_eq (x : Vec Ideal S1x64x16000 .f32) : k0_pay40 (F := Ideal) k0_pay4 x = k0_pay8 x := rfl

end Cert.KernelIdeal.Pad
-- ==== Proof.Stores.lean ====
module

public import proofs.«01_k».proof.Proof.Pad

@[expose] public section

set_option maxRecDepth 16384

/-! The 27 stores into a scratch buffer, and what a load of it reads. -/

noncomputable section

namespace Cert.KernelIdeal.Pad

open Idealize.ShloMosaic Idealize.ShloMosaic.TcCoe Idealize.SL.Sem
open Cert.KernelIdeal Cert.KernelIdeal.Gen

/-- The places of the 27 stores, last first. -/
def places : List (Rect S576x16512) :=
  [Rect.unit ![512, 16055] ![64, 457] inb_S576x16512_S64x457_512_16055,
   Rect.unit ![512, 55] ![64, 16000] inb_S576x16512_S64x16000_512_55,
   Rect.unit ![512, 0] ![64, 55] inb_S576x16512_S64x55_512_0,
   Rect.unit ![448, 16056] ![64, 456] inb_S576x16512_S64x456_448_16056,
   Rect.unit ![448, 56] ![64, 16000] inb_S576x16512_S64x16000_448_56,
   Rect.unit ![448, 0] ![64, 56] inb_S576x16512_S64x56_448_0,
   Rect.unit ![384, 16057] ![64, 455] inb_S576x16512_S64x455_384_16057,
   Rect.unit ![384, 57] ![64, 16000] inb_S576x16512_S64x16000_384_57,
   Rect.unit ![384, 0] ![64, 57] inb_S576x16512_S64x57_384_0,
   Rect.unit ![320, 16255] ![64, 257] inb_S576x16512_S64x257_320_16255,
   Rect.unit ![320, 255] ![64, 16000] inb_S576x16512_S64x16000_320_255,
   Rect.unit ![320, 0] ![64, 255] inb_S576x16512_S64x255_320_0,
   Rect.unit ![256, 16256] ![64, 256] inb_S576x16512_S64x256_256_16256,
   Rect.unit ![256, 256] ![64, 16000] inb_S576x16512_S64x16000_256_256,
   Rect.unit ![256, 0] ![64, 256] inb_S576x16512_S64x256_256_0,
   Rect.unit ![192, 16257] ![64, 255] inb_S576x16512_S64x255_192_16257,
   Rect.unit ![192, 257] ![64, 16000] inb_S576x16512_S64x16000_192_257,
   Rect.unit ![192, 0] ![64, 257] inb_S576x16512_S64x257_192_0,
   Rect.unit ![128, 16455] ![64, 57] inb_S576x16512_S64x57_128_16455,
   Rect.unit ![128, 455] ![64, 16000] inb_S576x16512_S64x16000_128_455,
   Rect.unit ![128, 0] ![64, 455] inb_S576x16512_S64x455_128_0,
   Rect.unit ![64, 16456] ![64, 56] inb_S576x16512_S64x56_64_16456,
   Rect.unit ![64, 456] ![64, 16000] inb_S576x16512_S64x16000_64_456,
   Rect.unit ![64, 0] ![64, 456] inb_S576x16512_S64x456_64_0,
   Rect.unit ![0, 16457] ![64, 55] inb_S576x16512_S64x55_0_16457,
   Rect.unit ![0, 457] ![64, 16000] inb_S576x16512_S64x16000_0_457,
   Rect.unit ![0, 0] ![64, 457] inb_S576x16512_S64x457_0_0]

/-- Every element of the buffer lies in one of them. -/
theorem places_cover (y : S576x16512.Idx) : ∃ R ∈ places, y ∈ R.set := by
  obtain ⟨r, q, rfl⟩ : ∃ (r : Fin 576) (q : Fin 16512), y = ix2 r q := ⟨y 0, y 1, eq_ix2 y⟩
  have key : ∀ o0 o1 w inb, ((o0 ≤ r.val ∧ r.val < o0 + 64) ∧ (o1 ≤ q.val ∧ q.val < o1 + w)) →
      ix2 r q ∈ (Rect.unit (s := S576x16512) ![o0, o1] ![64, w] inb).set := fun o0 o1 w inb h =>
    Rect.mem_set_unit.2 (Fin.forall_fin_two.2 h)
  have hr := r.isLt
  have hq := q.isLt
  obtain ⟨k, hk⟩ : ∃ k, k = r.val / 64 := ⟨_, rfl⟩
  have hk9 : k < 9 := by omega
  unfold places
  simp only [List.mem_cons, List.not_mem_nil, or_false, exists_eq_or_imp, exists_eq_left]
  have hq3 : (off k + 16000 ≤ q.val) ∨ (off k ≤ q.val ∧ q.val < off k + 16000) ∨ q.val < off k := by omega
  interval_cases k <;> simp only [off] at hq3 <;> rcases hq3 with hq3 | hq3 | hq3 <;>
    repeat (first | (refine Or.inl (key _ _ _ _ ?_); omega) | (refine key _ _ _ _ ?_; omega) | refine Or.inr ?_)

/-- A list of stores at those places, each a part of the tap buffer, leaves the tap buffer. -/
theorem canon_buf (x : Vec Ideal S1x64x16000 .f32) (L : List (View.Piece (Elt Ideal) S576x16512 .bf16))
    (hL : View.PiecesOf (e := .bf16) (buf x) L) (hp : L.map Sigma.fst = places) : View.canon L = buf x := by
  funext y
  obtain ⟨R, hR, hy⟩ := places_cover y
  rw [← hp] at hR
  obtain ⟨p, hpL, rfl⟩ := List.mem_map.1 hR
  exact View.canon_apply_of_pieces (buf x) L (fun p hp => hL.mem p hp) y ⟨p, hpL, hy⟩

/-- The stores of the first image's copies, last first. -/
@[reducible] def stores1 (x : Vec Ideal S1x64x16000 .f32) : List (View.Piece (Elt Ideal) S576x16512 .bf16) :=
  [⟨Rect.unit ![512, 16055] ![64, 457] inb_S576x16512_S64x457_512_16055, k0_pay37 (F := Ideal) (k0_pay36 (F := Ideal))⟩,
   ⟨Rect.unit ![512, 55] ![64, 16000] inb_S576x16512_S64x16000_512_55, k0_pay35 (F := Ideal) (k0_pay8 (F := Ideal) x)⟩,
   ⟨Rect.unit ![512, 0] ![64, 55] inb_S576x16512_S64x55_512_0, k0_pay34 (F := Ideal)⟩,
   ⟨Rect.unit ![448, 16056] ![64, 456] inb_S576x16512_S64x456_448_16056, k0_pay33 (F := Ideal)⟩,
   ⟨Rect.unit ![448, 56] ![64, 16000] inb_S576x16512_S64x16000_448_56, k0_pay32 (F := Ideal) (k0_pay6 (F := Ideal) x)⟩,
   ⟨Rect.unit ![448, 0] ![64, 56] inb_S576x16512_S64x56_448_0, k0_pay31 (F := Ideal)⟩,
   ⟨Rect.unit ![384, 16057] ![64, 455] inb_S576x16512_S64x455_384_16057, k0_pay30 (F := Ideal)⟩,
   ⟨Rect.unit ![384, 57] ![64, 16000] inb_S576x16512_S64x16000_384_57, k0_pay29 (F := Ideal) (k0_pay7 (F := Ideal) x)⟩,
   ⟨Rect.unit ![384, 0] ![64, 57] inb_S576x16512_S64x57_384_0, k0_pay28 (F := Ideal) (k0_pay27 (F := Ideal))⟩,
   ⟨Rect.unit ![320, 16255] ![64, 257] inb_S576x16512_S64x257_320_16255, k0_pay26 (F := Ideal)⟩,
   ⟨Rect.unit ![320, 255] ![64, 16000] inb_S576x16512_S64x16000_320_255, k0_pay25 (F := Ideal) (k0_pay8 (F := Ideal) x)⟩,
   ⟨Rect.unit ![320, 0] ![64, 255] inb_S576x16512_S64x255_320_0, k0_pay24 (F := Ideal)⟩,
   ⟨Rect.unit ![256, 16256] ![64, 256] inb_S576x16512_S64x256_256_16256, k0_pay23 (F := Ideal)⟩,
   ⟨Rect.unit ![256, 256] ![64, 16000] inb_S576x16512_S64x16000_256_256, k0_pay22 (F := Ideal) (k0_pay6 (F := Ideal) x)⟩,
   ⟨Rect.unit ![256, 0] ![64, 256] inb_S576x16512_S64x256_256_0, k0_pay21 (F := Ideal)⟩,
   ⟨Rect.unit ![192, 16257] ![64, 255] inb_S576x16512_S64x255_192_16257, k0_pay20 (F := Ideal)⟩,
   ⟨Rect.unit ![192, 257] ![64, 16000] inb_S576x16512_S64x16000_192_257, k0_pay19 (F := Ideal) (k0_pay7 (F := Ideal) x)⟩,
   ⟨Rect.unit ![192, 0] ![64, 257] inb_S576x16512_S64x257_192_0, k0_pay18 (F := Ideal)⟩,
   ⟨Rect.unit ![128, 16455] ![64, 57] inb_S576x16512_S64x57_128_16455, k0_pay17 (F := Ideal)⟩,
   ⟨Rect.unit ![128, 455] ![64, 16000] inb_S576x16512_S64x16000_128_455, k0_pay16 (F := Ideal) (k0_pay8 (F := Ideal) x)⟩,
   ⟨Rect.unit ![128, 0] ![64, 455] inb_S576x16512_S64x455_128_0, k0_pay15 (F := Ideal)⟩,
   ⟨Rect.unit ![64, 16456] ![64, 56] inb_S576x16512_S64x56_64_16456, k0_pay14 (F := Ideal)⟩,
   ⟨Rect.unit ![64, 456] ![64, 16000] inb_S576x16512_S64x16000_64_456, k0_pay13 (F := Ideal) (k0_pay6 (F := Ideal) x)⟩,
   ⟨Rect.unit ![64, 0] ![64, 456] inb_S576x16512_S64x456_64_0, k0_pay12 (F := Ideal)⟩,
   ⟨Rect.unit ![0, 16457] ![64, 55] inb_S576x16512_S64x55_0_16457, k0_pay11 (F := Ideal)⟩,
   ⟨Rect.unit ![0, 457] ![64, 16000] inb_S576x16512_S64x16000_0_457, k0_pay10 (F := Ideal) x⟩,
   ⟨Rect.unit ![0, 0] ![64, 457] inb_S576x16512_S64x457_0_0, k0_pay9 (F := Ideal)⟩]

/-- The stores of the second image's copies, last first. -/
@[reducible] def stores2 (x : Vec Ideal S1x64x16000 .f32) : List (View.Piece (Elt Ideal) S576x16512 .bf16) :=
  [⟨Rect.unit ![512, 16055] ![64, 457] inb_S576x16512_S64x457_512_16055, k0_pay69 (F := Ideal)⟩,
   ⟨Rect.unit ![512, 55] ![64, 16000] inb_S576x16512_S64x16000_512_55, k0_pay68 (F := Ideal) (k0_pay40 (F := Ideal) k0_pay4 x)⟩,
   ⟨Rect.unit ![512, 0] ![64, 55] inb_S576x16512_S64x55_512_0, k0_pay67 (F := Ideal)⟩,
   ⟨Rect.unit ![448, 16056] ![64, 456] inb_S576x16512_S64x456_448_16056, k0_pay66 (F := Ideal)⟩,
   ⟨Rect.unit ![448, 56] ![64, 16000] inb_S576x16512_S64x16000_448_56, k0_pay65 (F := Ideal) (k0_pay38 (F := Ideal) x)⟩,
   ⟨Rect.unit ![448, 0] ![64, 56] inb_S576x16512_S64x56_448_0, k0_pay64 (F := Ideal) (k0_pay63 (F := Ideal))⟩,
   ⟨Rect.unit ![384, 16057] ![64, 455] inb_S576x16512_S64x455_384_16057, k0_pay62 (F := Ideal)⟩,
   ⟨Rect.unit ![384, 57] ![64, 16000] inb_S576x16512_S64x16000_384_57, k0_pay61 (F := Ideal) (k0_pay39 (F := Ideal) k0_pay5 x)⟩,
   ⟨Rect.unit ![384, 0] ![64, 57] inb_S576x16512_S64x57_384_0, k0_pay60 (F := Ideal)⟩,
   ⟨Rect.unit ![320, 16255] ![64, 257] inb_S576x16512_S64x257_320_16255, k0_pay59 (F := Ideal)⟩,
   ⟨Rect.unit ![320, 255] ![64, 16000] inb_S576x16512_S64x16000_320_255, k0_pay58 (F := Ideal) (k0_pay40 (F := Ideal) k0_pay4 x)⟩,
   ⟨Rect.unit ![320, 0] ![64, 255] inb_S576x16512_S64x255_320_0, k0_pay57 (F := Ideal)⟩,
   ⟨Rect.unit ![256, 16256] ![64, 256] inb_S576x16512_S64x256_256_16256, k0_pay56 (F := Ideal)⟩,
   ⟨Rect.unit ![256, 256] ![64, 16000] inb_S576x16512_S64x16000_256_256, k0_pay55 (F := Ideal) (k0_pay38 (F := Ideal) x)⟩,
   ⟨Rect.unit ![256, 0] ![64, 256] inb_S576x16512_S64x256_256_0, k0_pay54 (F := Ideal)⟩,
   ⟨Rect.unit ![192, 16257] ![64, 255] inb_S576x16512_S64x255_192_16257, k0_pay53 (F := Ideal)⟩,
   ⟨Rect.unit ![192, 257] ![64, 16000] inb_S576x16512_S64x16000_192_257, k0_pay52 (F := Ideal) (k0_pay39 (F := Ideal) k0_pay5 x)⟩,
   ⟨Rect.unit ![192, 0] ![64, 257] inb_S576x16512_S64x257_192_0, k0_pay51 (F := Ideal)⟩,
   ⟨Rect.unit ![128, 16455] ![64, 57] inb_S576x16512_S64x57_128_16455, k0_pay50 (F := Ideal)⟩,
   ⟨Rect.unit ![128, 455] ![64, 16000] inb_S576x16512_S64x16000_128_455, k0_pay49 (F := Ideal) (k0_pay40 (F := Ideal) k0_pay4 x)⟩,
   ⟨Rect.unit ![128, 0] ![64, 455] inb_S576x16512_S64x455_128_0, k0_pay48 (F := Ideal)⟩,
   ⟨Rect.unit ![64, 16456] ![64, 56] inb_S576x16512_S64x56_64_16456, k0_pay47 (F := Ideal) (k0_pay46 (F := Ideal))⟩,
   ⟨Rect.unit ![64, 456] ![64, 16000] inb_S576x16512_S64x16000_64_456, k0_pay45 (F := Ideal) x⟩,
   ⟨Rect.unit ![64, 0] ![64, 456] inb_S576x16512_S64x456_64_0, k0_pay44 (F := Ideal)⟩,
   ⟨Rect.unit ![0, 16457] ![64, 55] inb_S576x16512_S64x55_0_16457, k0_pay43 (F := Ideal)⟩,
   ⟨Rect.unit ![0, 457] ![64, 16000] inb_S576x16512_S64x16000_0_457, k0_pay42 (F := Ideal) k0_pay5 x⟩,
   ⟨Rect.unit ![0, 0] ![64, 457] inb_S576x16512_S64x457_0_0, k0_pay41 (F := Ideal)⟩]

/-- The buffer's left and right margins are filled with zeros, and between them stands a copy of the image. -/
theorem stores1_of (x : Vec Ideal S1x64x16000 .f32) : View.PiecesOf (e := .bf16) (buf x) (stores1 x) := by
  unfold stores1
  simp only [View.PiecesOf, and_true]
  refine ⟨?_, ?_, ?_, ?_, ?_, ?_, ?_, ?_, ?_, ?_, ?_, ?_, ?_, ?_, ?_, ?_, ?_, ?_, ?_, ?_, ?_, ?_, ?_, ?_, ?_, ?_, ?_⟩
  all_goals first
    | (refine zero_piece x _ _ (fun z => ?_) (by decide) (by decide)
       unfold_payloads
       pointwise
       done)
    | (refine image_piece x _ _ (by decide) (by decide) (fun c p => ?_)
       pointwise [k0_pay10, k0_pay13, k0_pay16, k0_pay19, k0_pay22, k0_pay25, k0_pay29, k0_pay32, k0_pay35, copy_apply, left_apply, right_apply]
       simp [masked])

/-- The same of the second buffer and the second image. -/
theorem stores2_of (x : Vec Ideal S1x64x16000 .f32) : View.PiecesOf (e := .bf16) (buf x) (stores2 x) := by
  unfold stores2
  simp only [View.PiecesOf, and_true, copy2_eq, left2_eq, right2_eq]
  refine ⟨?_, ?_, ?_, ?_, ?_, ?_, ?_, ?_, ?_, ?_, ?_, ?_, ?_, ?_, ?_, ?_, ?_, ?_, ?_, ?_, ?_, ?_, ?_, ?_, ?_, ?_, ?_⟩
  all_goals first
    | (refine zero_piece x _ _ (fun z => ?_) (by decide) (by decide)
       unfold_payloads
       pointwise
       done)
    | (refine image_piece x _ _ (by decide) (by decide) (fun c p => ?_)
       pointwise [k0_pay42, k0_pay45, k0_pay49, k0_pay52, k0_pay55, k0_pay58, k0_pay61, k0_pay65, k0_pay68, copy2_eq, left2_eq, copy_apply, left_apply, right_apply]
       simp [masked])

/-- A load of the first buffer after its stores reads the tap buffer. -/
theorem load1 {v : View sig .tc .vmem S576x16512 .bf16} (x : Vec Ideal S1x64x16000 .f32) (B : LoadRect S576x16512) :
    v.readCov (Val := Elt Ideal) (stores1 x) B = fun j => buf x (B.idx j) := by
  rw [View.readCov_eq_canon', canon_buf x _ (stores1_of x) rfl]

/-- A load of the second buffer after its stores reads the tap buffer. -/
theorem load2 {v : View sig .tc .vmem S576x16512 .bf16} (x : Vec Ideal S1x64x16000 .f32) (B : LoadRect S576x16512) :
    v.readCov (Val := Elt Ideal) (stores2 x) B = fun j => buf x (B.idx j) := by
  rw [View.readCov_eq_canon', canon_buf x _ (stores2_of x) rfl]

end Cert.KernelIdeal.Pad
-- ==== Proof.Body.lean ====
module

public import proofs.«01_k».proof.Proof.Stores

@[expose] public section

set_option maxRecDepth 16384

/-! What one grid point's body writes to its two output blocks. -/

noncomputable section

namespace Cert.KernelIdeal.Body

open Idealize.ShloMosaic Idealize.ShloMosaic.TcCoe Idealize.SL.Sem
open Cert.KernelIdeal Cert.KernelIdeal.Gen Cert.KernelIdeal.Pad

/-- One output element of a head: the second product over the rectified first product. -/
def head {H : ℕ} (w1 : Fin H → Fin 576 → EReal) (b1 w2 : Fin H → EReal) (b2 : EReal) (P : Fin 576 → EReal) : EReal :=
  (∑ j, w2 j * max ((∑ r, w1 j r * P r) + b1 j) 0) + b2

/-- A block's column of the tap buffer for output position `n`. -/
def col (x : Vec Ideal S1x64x16000 .f32) (n : ℕ) : Fin 576 → EReal := fun r => at_ x r.val (256 + n)

/-- The sigmoid, kept between two constants. -/
def squash (v : EReal) : EReal :=
  min (Ideal.ofBits .f32 0x3F7FF972#32) (max (Ideal.ofBits .f32 0x38D1B717#32) (Ideal.logistic v))

/-- The keypoint block of one image. -/
def kp (x0 : Vec Ideal S1x64x16000 .f32) (x2 : Vec Ideal S64x576 .bf16) (x3 : Vec Ideal S64x1 .f32) (x4 : Vec Ideal S1x64 .bf16)
    (x5 : Vec Ideal S1x1 .f32) : S1x1x16000.Idx → EReal := fun y =>
  squash (head (fun j r => x2 (ix2 j r)) (fun j => x3 (ix2 j (0 : Fin 1))) (fun j => x4 (ix2 (0 : Fin 1) j)) (x5 (ix2 (0 : Fin 1) (0 : Fin 1)))
    (col x0 (y 2).val))

/-- The offsets block of one image. -/
def offs (x1 : Vec Ideal S1x64x16000 .f32) (x6 : Vec Ideal S128x576 .bf16) (x7 : Vec Ideal S128x1 .f32) (x8 : Vec Ideal S4x128 .bf16)
    (x9 : Vec Ideal S4x1 .f32) : S1x4x16000.Idx → EReal := fun y =>
  head (fun j r => x6 (ix2 j r)) (fun j => x7 (ix2 j (0 : Fin 1))) (fun j => x8 (ix2 (n0 := 4) (y 1) j)) (x9 (ix2 (n0 := 4) (y 1) (0 : Fin 1)))
    (col x1 (y 2).val)

/-- A block at position `p` of the last axis, its elements given by coordinates. -/
theorem tile {O w p : ℕ} (hp : p + w ≤ 16000) (G : (⟨3, ![1, O, 16000]⟩ : Shape).Idx → EReal) (inb)
    (v : (⟨3, ![1, O, w]⟩ : Shape).Idx → EReal)
    (h : ∀ (o : Fin O) (n : Fin w), v (ix3 (0 : Fin 1) o n) = G (ix3 (0 : Fin 1) o (⟨p + n.val, by omega⟩ : Fin 16000)))
    (z : (⟨3, ![1, O, w]⟩ : Shape).Idx) : v z = G ((Rect.unit (s := ⟨3, ![1, O, 16000]⟩) ![0, 0, p] ![1, O, w] inb).emb z) := by
  obtain ⟨a, o, n, rfl⟩ : ∃ (a : Fin 1) (o : Fin O) (n : Fin w), z = ix3 a o n := ⟨z 0, z 1, z 2, eq_ix3 z⟩
  obtain rfl : a = 0 := Subsingleton.elim _ _
  rw [h]
  congr 1
  funext x
  refine Fin.ext ?_
  rw [ValueKit.rect_emb_unit_val]
  fin_cases x
  · rfl
  · exact (Nat.zero_add _).symm
  · rfl

/-- Four stores side by side along the last axis, each a part of `G`, leave `G`. -/
theorem tiles {O : ℕ} (G : (⟨3, ![1, O, 16000]⟩ : Shape).Idx → EReal) (i3) (i2) (i1) (i0)
    (v3 : (⟨3, ![1, O, 3712]⟩ : Shape).Idx → EReal) (v2 v1 v0 : (⟨3, ![1, O, 4096]⟩ : Shape).Idx → EReal)
    (h3 : ∀ (o : Fin O) (n : Fin 3712), v3 (ix3 (0 : Fin 1) o n) = G (ix3 (0 : Fin 1) o (⟨12288 + n.val, by omega⟩ : Fin 16000)))
    (h2 : ∀ (o : Fin O) (n : Fin 4096), v2 (ix3 (0 : Fin 1) o n) = G (ix3 (0 : Fin 1) o (⟨8192 + n.val, by omega⟩ : Fin 16000)))
    (h1 : ∀ (o : Fin O) (n : Fin 4096), v1 (ix3 (0 : Fin 1) o n) = G (ix3 (0 : Fin 1) o (⟨4096 + n.val, by omega⟩ : Fin 16000)))
    (h0 : ∀ (o : Fin O) (n : Fin 4096), v0 (ix3 (0 : Fin 1) o n) = G (ix3 (0 : Fin 1) o (⟨0 + n.val, by omega⟩ : Fin 16000))) :
    View.canon (Val := Elt Ideal) (s := ⟨3, ![1, O, 16000]⟩) (e := .f32)
      [⟨Rect.unit ![0, 0, 12288] ![1, O, 3712] i3, v3⟩, ⟨Rect.unit ![0, 0, 8192] ![1, O, 4096] i2, v2⟩,
       ⟨Rect.unit ![0, 0, 4096] ![1, O, 4096] i1, v1⟩, ⟨Rect.unit ![0, 0, 0] ![1, O, 4096] i0, v0⟩] = G := by
  funext y
  refine View.canon_apply_of_pieces (Val := Elt Ideal) (e := .f32) G _ (View.PiecesOf.mem (Val := Elt Ideal) (e := .f32)
    (show View.PiecesOf (Val := Elt Ideal) (e := .f32) G [_, _, _, _] from
      ⟨tile (by norm_num) G i3 v3 h3, tile (by norm_num) G i2 v2 h2, tile (by norm_num) G i1 v1 h1, tile (by norm_num) G i0 v0 h0, trivial⟩)) y ?_
  obtain ⟨a, o, n, rfl⟩ : ∃ (a : Fin 1) (o : Fin O) (n : Fin 16000), y = ix3 a o n := ⟨y 0, y 1, y 2, eq_ix3 y⟩
  have key : ∀ p w inb, (p ≤ n.val ∧ n.val < p + w) → ix3 a o n ∈ (Rect.unit (s := ⟨3, ![1, O, 16000]⟩) ![0, 0, p] ![1, O, w] inb).set := by
    intro p w inb h
    refine Rect.mem_set_unit.2 fun x => ?_
    fin_cases x
    · exact ⟨Nat.zero_le _, by have := a.isLt; show a.val < 0 + 1; omega⟩
    · exact ⟨Nat.zero_le _, by have := o.isLt; show o.val < 0 + O; omega⟩
    · exact h
  have hn := n.isLt
  simp only [List.mem_cons, List.not_mem_nil, or_false, exists_eq_or_imp, exists_eq_left]
  by_cases a3 : 12288 ≤ n.val
  · exact Or.inl (key _ _ _ (by omega))
  by_cases a2 : 8192 ≤ n.val
  · exact Or.inr (Or.inl (key _ _ _ (by omega)))
  by_cases a1 : 4096 ≤ n.val
  · exact Or.inr (Or.inr (Or.inl (key _ _ _ (by omega))))
  · exact Or.inr (Or.inr (Or.inr (key _ _ _ (by omega))))

/-- The keypoint block the body leaves. -/
theorem out_kp (c : Dev nD) (i : grid0.Coords)
    (arg1 : Memref sig .tc .vmem S1x64x16000 .f32) (harg1 : arg1.IsWhole) (arg2 : Memref sig .tc .vmem S1x64x16000 .f32) (harg2 : arg2.IsWhole) (arg3 : Memref sig .tc .vmem S64x576 .bf16) (harg3 : arg3.IsWhole) (arg4 : Memref sig .tc .vmem S64x1 .f32) (harg4 : arg4.IsWhole) (arg5 : Memref sig .tc .vmem S1x64 .bf16) (harg5 : arg5.IsWhole) (arg6 : Memref sig .tc .vmem S1x1 .f32) (harg6 : arg6.IsWhole) (arg7 : Memref sig .tc .vmem S128x576 .bf16) (harg7 : arg7.IsWhole) (arg8 : Memref sig .tc .vmem S128x1 .f32) (harg8 : arg8.IsWhole) (arg9 : Memref sig .tc .vmem S4x128 .bf16) (harg9 : arg9.IsWhole) (arg10 : Memref sig .tc .vmem S4x1 .f32) (harg10 : arg10.IsWhole) (arg11 : Memref sig .tc .vmem S1x1x16000 .f32) (harg11 : arg11.IsWhole) (arg12 : Memref sig .tc .vmem S1x4x16000 .f32) (harg12 : arg12.IsWhole) (arg13 : Memref sig .tc .vmem S576x16512 .bf16) (harg13 : arg13.IsWhole) (arg14 : Memref sig .tc .vmem S576x16512 .bf16) (harg14 : arg14.IsWhole)
    (x0 : Vec Ideal S1x64x16000 .f32) (x1 : Vec Ideal S1x64x16000 .f32) (x2 : Vec Ideal S64x576 .bf16) (x3 : Vec Ideal S64x1 .f32) (x4 : Vec Ideal S1x64 .bf16) (x5 : Vec Ideal S1x1 .f32) (x6 : Vec Ideal S128x576 .bf16) (x7 : Vec Ideal S128x1 .f32) (x8 : Vec Ideal S4x128 .bf16) (x9 : Vec Ideal S4x1 .f32) :
    (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 : S1x1x16000.Idx → EReal) = kp x0 x2 x3 x4 x5 := by
  frame_open
  rw [View.read_writes_junk_eq_canon]
  simp only [View.readAt_eq_ld, Memref.IsWhole.read_unread]
  simp (disch := decide) only [View.ld_unit_lit', load1]
  refine tiles (O := 1) (kp x0 x2 x3 x4 x5) _ _ _ _ _ _ _ _ ?_ ?_ ?_ ?_
  all_goals
    intro o n
    obtain rfl : o = 0 := Subsingleton.elim _ _
    unfold_payloads
    pointwise [kp, head, col, buf, squash]
    first | done | simp only [← Nat.add_assoc, Nat.reduceAdd, Nat.zero_add]

/-- The offsets block the body leaves. -/
theorem out_offs (c : Dev nD) (i : grid0.Coords)
    (arg1 : Memref sig .tc .vmem S1x64x16000 .f32) (harg1 : arg1.IsWhole) (arg2 : Memref sig .tc .vmem S1x64x16000 .f32) (harg2 : arg2.IsWhole) (arg3 : Memref sig .tc .vmem S64x576 .bf16) (harg3 : arg3.IsWhole) (arg4 : Memref sig .tc .vmem S64x1 .f32) (harg4 : arg4.IsWhole) (arg5 : Memref sig .tc .vmem S1x64 .bf16) (harg5 : arg5.IsWhole) (arg6 : Memref sig .tc .vmem S1x1 .f32) (harg6 : arg6.IsWhole) (arg7 : Memref sig .tc .vmem S128x576 .bf16) (harg7 : arg7.IsWhole) (arg8 : Memref sig .tc .vmem S128x1 .f32) (harg8 : arg8.IsWhole) (arg9 : Memref sig .tc .vmem S4x128 .bf16) (harg9 : arg9.IsWhole) (arg10 : Memref sig .tc .vmem S4x1 .f32) (harg10 : arg10.IsWhole) (arg11 : Memref sig .tc .vmem S1x1x16000 .f32) (harg11 : arg11.IsWhole) (arg12 : Memref sig .tc .vmem S1x4x16000 .f32) (harg12 : arg12.IsWhole) (arg13 : Memref sig .tc .vmem S576x16512 .bf16) (harg13 : arg13.IsWhole) (arg14 : Memref sig .tc .vmem S576x16512 .bf16) (harg14 : arg14.IsWhole)
    (x0 : Vec Ideal S1x64x16000 .f32) (x1 : Vec Ideal S1x64x16000 .f32) (x2 : Vec Ideal S64x576 .bf16) (x3 : Vec Ideal S64x1 .f32) (x4 : Vec Ideal S1x64 .bf16) (x5 : Vec Ideal S1x1 .f32) (x6 : Vec Ideal S128x576 .bf16) (x7 : Vec Ideal S128x1 .f32) (x8 : Vec Ideal S4x128 .bf16) (x9 : Vec Ideal S4x1 .f32) :
    (out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 : S1x4x16000.Idx → EReal) = offs x1 x6 x7 x8 x9 := by
  frame_open
  rw [View.read_writes_junk_eq_canon]
  simp only [View.readAt_eq_ld, Memref.IsWhole.read_unread]
  simp (disch := decide) only [View.ld_unit_lit', load2]
  refine tiles (O := 4) (offs x1 x6 x7 x8 x9) _ _ _ _ _ _ _ _ ?_ ?_ ?_ ?_
  all_goals
    intro o n
    unfold_payloads
    pointwise [offs, head, col, buf]
    first | done | simp only [← Nat.add_assoc, Nat.reduceAdd, Nat.zero_add]

end Cert.KernelIdeal.Body
-- ==== Proof.Conv.lean ====
module

public import proofs.«01_k».proof.Proof.Gen.ReferenceIdeal.Read
public import Idealize.ShloMosaic.PureOps.Ideal
public import Idealize.ShloMosaic.Lib.Pointwise

@[expose] public section

set_option maxRecDepth 16384

/-! The reference's three results read at an index. -/

noncomputable section

namespace Cert.ReferenceIdeal.Conv

open Idealize.ShloMosaic Idealize.ShloMosaic.TcCoe Idealize.SL.Sem
open Cert.ReferenceIdeal Cert.ReferenceIdeal.Gen Cert.ReferenceIdeal.Read

/-- The image with a border of zeros, the border's first row and column numbered zero. -/
def padded (x : Vec Ideal S32x64x80x200 .f32) (b : Fin 32) (c : Fin 64) (r s : ℕ) : EReal :=
  if h : (1 ≤ r ∧ r < 81) ∧ 1 ≤ s ∧ s < 201 then x (ix4 b c (⟨r - 1, by omega⟩ : Fin 80) (⟨s - 1, by omega⟩ : Fin 200)) else 0

/-- The reference's padded operand at an index is the image with its border of zeros. -/
theorem padded_eq (x : Vec Ideal S32x64x80x200 .f32) (b : Fin 32) (c : Fin 64) (r : Fin 82) (s : Fin 202) :
    val_main_v0 (F := Ideal) x (ix4 b c r s) = padded x b c r.val s.val := by
  pointwise [val_main_v0, val_main_call0_v0, val_main_c]
  rw [padded]
  have h0 : (FloatOps.sitofp .f32 (0#32 : BitVec 32) : Ideal .f32) = (0 : EReal) := by simp [FloatOps.sitofp]
  split_ifs with h1 h2 h2
  · rfl
  · exact absurd h1 (by omega)
  · exact absurd h2 (by omega)
  · exact h0

/-- One of the nine products: the image moved by the tap's place, times the tap's weights, summed over the channels. -/
theorem tap (x : Vec Ideal S32x64x80x200 .f32) (w : Vec Ideal S64x64x3x3 .f32) (ky kx : ℕ) (hy : ky < 3) (hx : kx < 3)
    (hs : S32x64x82x202.Slices ![0, 0, ky, kx] S32x64x80x200) (hw : S64x64x3x3.Slices ![0, 0, ky, kx] S64x64x1x1)
    (b : Fin 32) (o : Fin 64) (r : Fin 80) (s : Fin 200) :
    transpose S32x64x80x200 [0, 3, 1, 2] ((Host.dotGeneral (F := Ideal) (φ₁ := .f32) (φ₂ := .f32) dot_S32x64x80x200_S64x64_S32x80x200x64_1_1_023_0_n_n none
        (extractStridedSlice S32x64x80x200 ![0, 0, ky, kx] (val_main_v0 (F := Ideal) x) hs)
        (shapeCast S64x64 (extractStridedSlice S64x64x1x1 ![0, 0, ky, kx] w hw) shapeCasts_S64x64x1x1_S64x64) : Vec Ideal S32x80x200x64 .f32))
      transposes_S32x80x200x64_S32x64x80x200_0_3_1_2 (ix4 b o r s)
      = ∑ c : Fin 64, padded x b c (ky + r.val) (kx + s.val) * w (ix4 o c (⟨ky, hy⟩ : Fin 3) (⟨kx, hx⟩ : Fin 3)) := by
  pointwise
  refine Finset.sum_congr rfl fun c _ => ?_
  rw [padded_eq]

/-- The 3x3 convolution with padding 1, at an index: nine taps, 64 channels. -/
def conv (x : Vec Ideal S32x64x80x200 .f32) (w : Vec Ideal S64x64x3x3 .f32) (b : Fin 32) (o : Fin 64) (r : Fin 80) (s : Fin 200) : EReal :=
  ∑ k : Fin 9, ∑ c : Fin 64, padded x b c (k.val / 3 + r.val) (k.val % 3 + s.val) *
    w (ix4 o c (⟨k.val / 3, by omega⟩ : Fin 3) (⟨k.val % 3, by omega⟩ : Fin 3))

/-- The reference's sum of nine products is the convolution. -/
theorem conv_eq (x : Vec Ideal S32x64x80x200 .f32) (w : Vec Ideal S64x64x3x3 .f32) (b : Fin 32) (o : Fin 64) (r : Fin 80) (s : Fin 200) :
    val_main_v55 (F := Ideal) x w (ix4 b o r s) = conv x w b o r s := by
  have z : val_main_v6 (F := Ideal) (ix4 b o r s) = (0 : EReal) := by
    pointwise [val_main_v6, val_main_cst]
  rw [val_main_v55_apply, val_main_v49_apply, val_main_v43_apply, val_main_v37_apply, val_main_v31_apply, val_main_v25_apply, val_main_v19_apply, val_main_v13_apply, val_main_v7_apply, z,
    show val_main_v5 (F := Ideal) x w (ix4 b o r s) = _ from tap x w 0 0 (by decide) (by decide) _ _ b o r s,
    show val_main_v12 (F := Ideal) x w (ix4 b o r s) = _ from tap x w 0 1 (by decide) (by decide) _ _ b o r s,
    show val_main_v18 (F := Ideal) x w (ix4 b o r s) = _ from tap x w 0 2 (by decide) (by decide) _ _ b o r s,
    show val_main_v24 (F := Ideal) x w (ix4 b o r s) = _ from tap x w 1 0 (by decide) (by decide) _ _ b o r s,
    show val_main_v30 (F := Ideal) x w (ix4 b o r s) = _ from tap x w 1 1 (by decide) (by decide) _ _ b o r s,
    show val_main_v36 (F := Ideal) x w (ix4 b o r s) = _ from tap x w 1 2 (by decide) (by decide) _ _ b o r s,
    show val_main_v42 (F := Ideal) x w (ix4 b o r s) = _ from tap x w 2 0 (by decide) (by decide) _ _ b o r s,
    show val_main_v48 (F := Ideal) x w (ix4 b o r s) = _ from tap x w 2 1 (by decide) (by decide) _ _ b o r s,
    show val_main_v54 (F := Ideal) x w (ix4 b o r s) = _ from tap x w 2 2 (by decide) (by decide) _ _ b o r s]
  simp only [conv, Fin.sum_univ_castSucc, Fin.sum_univ_zero]
  rfl

/-- The second head's convolution is the same function of its own operands. -/
theorem conv_off (x : Vec Ideal S32x64x80x200 .f32) (w : Vec Ideal S64x64x3x3 .f32) :
    val_main_v128 (F := Ideal) x w = val_main_v55 (F := Ideal) x w := rfl

/-- The third head's convolution is the same function of its own operands. -/
theorem conv_reg (x : Vec Ideal S32x64x80x200 .f32) (w : Vec Ideal S64x64x3x3 .f32) :
    val_main_v194 (F := Ideal) x w = val_main_v55 (F := Ideal) x w := rfl

/-- One output element of a head of the reference: the second product over the rectified convolution. -/
def headR (x : Vec Ideal S32x64x80x200 .f32) (w1 : Vec Ideal S64x64x3x3 .f32) (b1 : Vec Ideal S64 .f32) (w2 : Fin 64 → EReal) (b2 : EReal)
    (b : Fin 32) (r : Fin 80) (s : Fin 200) : EReal :=
  (∑ j : Fin 64, max (conv x w1 b j r s + b1 (ix1 j)) 0 * w2 j) + b2

/-- The keypoint map before the sigmoid. -/
theorem kp_eq (x : Vec Ideal S32x64x80x200 .f32) (w1 : Vec Ideal S64x64x3x3 .f32) (b1 : Vec Ideal S64 .f32) (w2 : Vec Ideal S1x64x1x1 .f32)
    (b2 : Vec Ideal S1 .f32) (b : Fin 32) (o : Fin 1) (r : Fin 80) (s : Fin 200) :
    val_main_v65 (F := Ideal) x w1 b1 w2 b2 (ix4 b o r s)
      = headR x w1 b1 (fun j => w2 (ix4 (0 : Fin 1) j (0 : Fin 1) (0 : Fin 1))) (b2 (ix1 (0 : Fin 1))) b r s := by
  pointwise [val_main_v65, val_main_v64, val_main_v63, val_main_v62, val_main_v61, val_main_v60, val_main_v59, val_main_v58, val_main_v57,
    val_main_v56, val_main_call1_v0, val_main_call1_cst, conv_eq, headR]

/-- The keypoint map: its sigmoid, kept between two constants. -/
theorem res_kp (x : Vec Ideal S32x64x80x200 .f32) (w1 : Vec Ideal S64x64x3x3 .f32) (b1 : Vec Ideal S64 .f32) (w2 : Vec Ideal S1x64x1x1 .f32)
    (b2 : Vec Ideal S1 .f32) (b : Fin 32) (o : Fin 1) (r : Fin 80) (s : Fin 200) :
    val_main_v72 (F := Ideal) x w1 b1 w2 b2 (ix4 b o r s)
      = min (Ideal.ofBits .f32 0x3F7FF972#32) (max (Ideal.ofBits .f32 0x38D1B717#32) (Ideal.logistic
          (headR x w1 b1 (fun j => w2 (ix4 (0 : Fin 1) j (0 : Fin 1) (0 : Fin 1))) (b2 (ix1 (0 : Fin 1))) b r s))) := by
  rw [← kp_eq x w1 b1 w2 b2 b o r s]
  pointwise [val_main_v72, val_main_call2_v4, val_main_call2_v3, val_main_cst_3, val_main_call2_v2, val_main_call2_v1, val_main_call2_v0,
    val_main_cst_2, val_main_v71, val_main_v70, val_main_cst_1, val_main_v69, val_main_v68, val_main_cst_0, val_main_v67, val_main_v66]
  rfl

/-- The points' offsets. -/
theorem res_off (x : Vec Ideal S32x64x80x200 .f32) (w1 : Vec Ideal S64x64x3x3 .f32) (b1 : Vec Ideal S64 .f32) (w2 : Vec Ideal S2x64x1x1 .f32)
    (b2 : Vec Ideal S2 .f32) (b : Fin 32) (o : Fin 2) (r : Fin 80) (s : Fin 200) :
    val_main_v138 (F := Ideal) x w1 b1 w2 b2 (ix4 b o r s)
      = headR x w1 b1 (fun j => w2 (ix4 o j (0 : Fin 1) (0 : Fin 1))) (b2 (ix1 o)) b r s := by
  pointwise [val_main_v138, val_main_v137, val_main_v136, val_main_v135, val_main_v134, val_main_v133, val_main_v132, val_main_v131,
    val_main_v130, val_main_v129, val_main_call4_v0, val_main_call4_cst, conv_off, conv_eq, headR]

/-- The integer offsets: the same function of the third head's operands. -/
theorem res_reg (x : Vec Ideal S32x64x80x200 .f32) (w1 : Vec Ideal S64x64x3x3 .f32) (b1 : Vec Ideal S64 .f32) (w2 : Vec Ideal S2x64x1x1 .f32)
    (b2 : Vec Ideal S2 .f32) (b : Fin 32) (o : Fin 2) (r : Fin 80) (s : Fin 200) :
    val_main_v204 (F := Ideal) x w1 b1 w2 b2 (ix4 b o r s)
      = headR x w1 b1 (fun j => w2 (ix4 o j (0 : Fin 1) (0 : Fin 1))) (b2 (ix1 o)) b r s :=
  (congrFun (show val_main_v204 (F := Ideal) x w1 b1 w2 b2 = val_main_v138 (F := Ideal) x w1 b1 w2 b2 from rfl) _).trans (res_off x w1 b1 w2 b2 b o r s)

end Cert.ReferenceIdeal.Conv

end
-- ==== Proof.Equation.lean ====
module

public import proofs.«01_k».proof.Proof.Body
public import proofs.«01_k».proof.Proof.Conv

@[expose] public section

set_option maxRecDepth 16384

/-! The kernel's product over the 576 rows of its tap buffer is the convolution, and so its heads are the reference's. -/

noncomputable section

namespace Cert.Tie

open Idealize.ShloMosaic Idealize.ShloMosaic.TcCoe Idealize.SL.Sem
open Cert.KernelIdeal Cert.KernelIdeal.Gen Cert.KernelIdeal.Pad Cert.KernelIdeal.Body Cert.ReferenceIdeal.Conv

/-- The block `x` is image `b` of the batch `X`, its rows laid end to end. -/
def Flat (x : Vec Ideal S1x64x16000 .f32) (X : Vec Ideal S32x64x80x200 .f32) (b : Fin 32) : Prop :=
  ∀ (c : Fin 64) (p : Fin 16000), x (ix3 (0 : Fin 1) c p) = X (ix4 b c (⟨p.val / 200, by omega⟩ : Fin 80) (⟨p.val % 200, by omega⟩ : Fin 200))

/-- Row `j` of the matrix `w` holds the weights of output channel `o`: tap by tap, the channels of a tap side by side. -/
def Row (w : Fin 576 → EReal) (W : Vec Ideal S64x64x3x3 .f32) (o : Fin 64) : Prop :=
  ∀ (k : Fin 9) (c : Fin 64), w (⟨k.val * 64 + c.val, by omega⟩ : Fin 576)
    = W (ix4 o c (⟨k.val / 3, by omega⟩ : Fin 3) (⟨k.val % 3, by omega⟩ : Fin 3))

/-- A row of the tap buffer at the column of an output position is the image with its border, moved by the tap. -/
theorem row_eq {x : Vec Ideal S1x64x16000 .f32} {X : Vec Ideal S32x64x80x200 .f32} {b : Fin 32} (hx : Flat x X b)
    (k : Fin 9) (c : Fin 64) (r : Fin 80) (s : Fin 200) :
    at_ x (k.val * 64 + c.val) (256 + (r.val * 200 + s.val)) = padded X b c (k.val / 3 + r.val) (k.val % 3 + s.val) := by
  have hk : (k.val * 64 + c.val) / 64 = k.val := by omega
  have hc : (k.val * 64 + c.val) % 64 = c.val := by omega
  have hkx : k.val % 3 < 3 := Nat.mod_lt _ (by decide)
  have hky : k.val / 3 < 3 := by omega
  unfold at_ padded
  simp only [hk, hc, off, masked]
  by_cases h1 : (1 ≤ k.val / 3 + r.val ∧ k.val / 3 + r.val < 81) ∧ 1 ≤ k.val % 3 + s.val ∧ k.val % 3 + s.val < 201
  · rw [dif_pos h1, dif_pos (by omega), if_neg (by omega), hx]
    congr 1
    have e : 256 + (r.val * 200 + s.val) - (457 - k.val / 3 * 200 - k.val % 3) = (k.val / 3 + r.val - 1) * 200 + (k.val % 3 + s.val - 1) := by omega
    refine congrArg₂ (fun a d => ix4 b c a d) (Fin.ext ?_) (Fin.ext ?_)
    · show (256 + (r.val * 200 + s.val) - (457 - k.val / 3 * 200 - k.val % 3)) / 200 = k.val / 3 + r.val - 1
      rw [e]; omega
    · show (256 + (r.val * 200 + s.val) - (457 - k.val / 3 * 200 - k.val % 3)) % 200 = k.val % 3 + s.val - 1
      rw [e]; omega
  · rw [dif_neg h1]
    split_ifs with h2 h3
    · rfl
    · exfalso
      omega
    · rfl

/-- The kernel's product of a row of weights with a column of the tap buffer is the convolution at that position. -/
theorem dot_eq {x : Vec Ideal S1x64x16000 .f32} {X : Vec Ideal S32x64x80x200 .f32} {b : Fin 32} (hx : Flat x X b)
    {w : Fin 576 → EReal} {W : Vec Ideal S64x64x3x3 .f32} {o : Fin 64} (hw : Row w W o) (r : Fin 80) (s : Fin 200) :
    ∑ q, w q * col x (r.val * 200 + s.val) q = conv X W b o r s := by
  unfold conv
  rw [← (finProdFinEquiv (m := 9) (n := 64)).sum_comp, Fintype.sum_prod_type]
  refine Finset.sum_congr rfl fun k _ => Finset.sum_congr rfl fun c _ => ?_
  have e : (finProdFinEquiv (k, c) : Fin (9 * 64)) = (⟨k.val * 64 + c.val, by omega⟩ : Fin 576) :=
    Fin.ext (by show c.val + 64 * k.val = k.val * 64 + c.val; omega)
  rw [e, hw k c, mul_comm]
  exact congrArg (· * _) (row_eq hx k c r s)

/-- A head of 64 hidden channels is the reference's head. -/
theorem head_eq {x : Vec Ideal S1x64x16000 .f32} {X : Vec Ideal S32x64x80x200 .f32} {b : Fin 32} (hx : Flat x X b)
    {w1 : Fin 64 → Fin 576 → EReal} {W1 : Vec Ideal S64x64x3x3 .f32} (hw : ∀ j, Row (w1 j) W1 j)
    {b1 : Fin 64 → EReal} {B1 : Vec Ideal S64 .f32} (hb : ∀ j, b1 j = B1 (ix1 j)) (w2 : Fin 64 → EReal) (b2 : EReal) (r : Fin 80) (s : Fin 200) :
    head w1 b1 w2 b2 (col x (r.val * 200 + s.val)) = headR X W1 B1 w2 b2 b r s := by
  unfold head headR
  congr 1
  refine Finset.sum_congr rfl fun j _ => ?_
  rw [dot_eq hx (hw j), hb j, mul_comm]

/-- A head over two groups of 64 hidden channels, summed group by group. -/
theorem head_split (w1 : Fin 128 → Fin 576 → EReal) (b1 w2 : Fin 128 → EReal) (b2 : EReal) (P : Fin 576 → EReal) :
    head w1 b1 w2 b2 P
      = (∑ j : Fin 64, w2 (⟨j.val, by omega⟩ : Fin 128) * max ((∑ r, w1 (⟨j.val, by omega⟩ : Fin 128) r * P r) + b1 (⟨j.val, by omega⟩ : Fin 128)) 0
        + ∑ j : Fin 64, w2 (⟨64 + j.val, by omega⟩ : Fin 128) * max ((∑ r, w1 (⟨64 + j.val, by omega⟩ : Fin 128) r * P r) + b1 (⟨64 + j.val, by omega⟩ : Fin 128)) 0) + b2 := by
  unfold head
  rw [Fin.sum_univ_two_halves 64 64 rfl]

/-- Where the second group's last weights are zero the head is the first group's. -/
theorem head_first {w1 : Fin 128 → Fin 576 → EReal} {b1 w2 : Fin 128 → EReal} (hz : ∀ j : Fin 64, w2 (⟨64 + j.val, by omega⟩ : Fin 128) = 0)
    (b2 : EReal) (P : Fin 576 → EReal) :
    head w1 b1 w2 b2 P = head (fun j : Fin 64 => w1 (⟨j.val, by omega⟩ : Fin 128)) (fun j => b1 (⟨j.val, by omega⟩ : Fin 128))
      (fun j => w2 (⟨j.val, by omega⟩ : Fin 128)) b2 P := by
  rw [head_split]
  unfold head
  congr 1
  simp only [hz, zero_mul, Finset.sum_const_zero, add_zero]

/-- Where the first group's last weights are zero the head is the second group's. -/
theorem head_second {w1 : Fin 128 → Fin 576 → EReal} {b1 w2 : Fin 128 → EReal} (hz : ∀ j : Fin 64, w2 (⟨j.val, by omega⟩ : Fin 128) = 0)
    (b2 : EReal) (P : Fin 576 → EReal) :
    head w1 b1 w2 b2 P = head (fun j : Fin 64 => w1 (⟨64 + j.val, by omega⟩ : Fin 128)) (fun j => b1 (⟨64 + j.val, by omega⟩ : Fin 128))
      (fun j => w2 (⟨64 + j.val, by omega⟩ : Fin 128)) b2 P := by
  rw [head_split]
  unfold head
  congr 1
  simp only [hz, zero_mul, Finset.sum_const_zero, zero_add]

end Cert.Tie

end
-- ==== Proof.Reads.lean ====
module

public import proofs.«01_k».proof.Proof.Equation
public import proofs.«01_k».proof.Proof.Gen.KernelIdeal.Frame
public import Idealize.ShloMosaic.Lib.Claim
public import Idealize.ShloMosaic.Lib.Pipeline.ValueKit

@[expose] public section

set_option maxRecDepth 16384

/-! What each grid point's input blocks hold, in terms of the arguments. -/

noncomputable section

namespace Cert.Tie

open Idealize.ShloMosaic Idealize.ShloMosaic.TcCoe Idealize.SL.Sem
open Cert.KernelIdeal Cert.KernelIdeal.Gen Cert.KernelIdeal.Pad Cert.KernelIdeal.Body Cert.ReferenceIdeal.Conv

variable (m : (ℓ : Loc nD τ sig) → Buf (Elt Ideal) ℓ) (c : Dev nD)

/-- The image a grid point works on. -/
def image (t : Fin cfg0.N) : Fin 32 := ⟨t.val, t.isLt⟩

/-- Before the kernel starts, the host leaves in `main_v24` the first operand, each image's rows laid end to end. -/
theorem entry0 : V m c main_v24 = (shapeCast S32x64x16000 (m (c.tc.loc main_arg0)) shapeCasts_S32x64x80x200_S32x64x16000 : Vec Ideal S32x64x16000 .f32) := by
  show StableHlo.after hostOps0 (fun b => m (c, b)) (Proc.tc.devRef main_v24) = _
  after_results
  rfl

/-- Before the kernel starts, the host leaves in `main_v25` the second operand, each image's rows laid end to end. -/
theorem entry1 : V m c main_v25 = (shapeCast S32x64x16000 (m (c.tc.loc main_arg1)) shapeCasts_S32x64x80x200_S32x64x16000 : Vec Ideal S32x64x16000 .f32) := by
  show StableHlo.after hostOps0 (fun b => m (c, b)) (Proc.tc.devRef main_v25) = _
  after_results
  rfl

/-- Before the kernel starts, the host leaves in `main_v2` the keypoint head's first weights, tap by tap. -/
theorem entry2 : V m c main_v2 = (truncf (F := Ideal) (φ := .f32) .bf16 ((shapeCast S64x576 (transpose S64x3x3x64 [0, 2, 3, 1] (m (c.tc.loc main_arg2)) transposes_S64x64x3x3_S64x3x3x64_0_2_3_1) shapeCasts_S64x3x3x64_S64x576) : Vec Ideal S64x576 .f32) bitsLt_bf16_f32 : Vec Ideal S64x576 .bf16) := by
  show StableHlo.after hostOps0 (fun b => m (c, b)) (Proc.tc.devRef main_v2) = _
  after_results
  rfl

/-- Before the kernel starts, the host leaves in `main_v9` the keypoint head's first bias as a column. -/
theorem entry3 : V m c main_v9 = (shapeCast S64x1 (m (c.tc.loc main_arg3)) shapeCasts_S64_S64x1 : Vec Ideal S64x1 .f32) := by
  show StableHlo.after hostOps0 (fun b => m (c, b)) (Proc.tc.devRef main_v9) = _
  after_results
  rfl

/-- Before the kernel starts, the host leaves in `main_v13` the keypoint head's second weights as a row. -/
theorem entry4 : V m c main_v13 = (truncf (F := Ideal) (φ := .f32) .bf16 (shapeCast S1x64 (m (c.tc.loc main_arg4)) shapeCasts_S1x64x1x1_S1x64 : Vec Ideal S1x64 .f32) bitsLt_bf16_f32 : Vec Ideal S1x64 .bf16) := by
  show StableHlo.after hostOps0 (fun b => m (c, b)) (Proc.tc.devRef main_v13) = _
  after_results
  rfl

/-- Before the kernel starts, the host leaves in `main_v21` the keypoint head's second bias. -/
theorem entry5 : V m c main_v21 = (shapeCast S1x1 (m (c.tc.loc main_arg5)) shapeCasts_S1_S1x1 : Vec Ideal S1x1 .f32) := by
  show StableHlo.after hostOps0 (fun b => m (c, b)) (Proc.tc.devRef main_v21) = _
  after_results
  rfl

/-- Before the kernel starts, the host leaves in `main_v8` the two offset heads' first weights, one above the other. -/
theorem entry6 : V m c main_v8 = (truncf (F := Ideal) (φ := .f32) .bf16 ((concatenate S128x576 0 [⟨S64x576, (shapeCast S64x576 (transpose S64x3x3x64 [0, 2, 3, 1] (m (c.tc.loc main_arg6)) transposes_S64x64x3x3_S64x3x3x64_0_2_3_1) shapeCasts_S64x3x3x64_S64x576)⟩, ⟨S64x576, (shapeCast S64x576 (transpose S64x3x3x64 [0, 2, 3, 1] (m (c.tc.loc main_arg10)) transposes_S64x64x3x3_S64x3x3x64_0_2_3_1) shapeCasts_S64x3x3x64_S64x576)⟩] concatenates_S64x576_S64x576_S128x576_d0) : Vec Ideal S128x576 .f32) bitsLt_bf16_f32 : Vec Ideal S128x576 .bf16) := by
  show StableHlo.after hostOps0 (fun b => m (c, b)) (Proc.tc.devRef main_v8) = _
  after_results
  rfl

/-- Before the kernel starts, the host leaves in `main_v11` the two offset heads' first biases, one above the other. -/
theorem entry7 : V m c main_v11 = (shapeCast S128x1 (concatenate S128 0 [⟨S64, (m (c.tc.loc main_arg7))⟩, ⟨S64, (m (c.tc.loc main_arg11))⟩] concatenates_S64_S64_S128_d0) shapeCasts_S128_S128x1 : Vec Ideal S128x1 .f32) := by
  show StableHlo.after hostOps0 (fun b => m (c, b)) (Proc.tc.devRef main_v11) = _
  after_results
  rfl

/-- Before the kernel starts, the host leaves in `main_v20` the two offset heads' second weights in two diagonal blocks, zero elsewhere. -/
theorem entry8 : V m c main_v20 = (truncf (F := Ideal) (φ := .f32) .bf16 ((concatenate S4x128 0 [⟨S2x128, (concatenate S2x128 1 [⟨S2x64, (shapeCast S2x64 (m (c.tc.loc main_arg8)) shapeCasts_S2x64x1x1_S2x64)⟩, ⟨S2x64, (broadcastInDim S2x64 ![] bcast_S_S2x64 (constant (F := Ideal) S_ .f32 0x00000000#32))⟩] concatenates_S2x64_S2x64_S2x128_d1)⟩, ⟨S2x128, (concatenate S2x128 1 [⟨S2x64, (broadcastInDim S2x64 ![] bcast_S_S2x64 (constant (F := Ideal) S_ .f32 0x00000000#32))⟩, ⟨S2x64, (shapeCast S2x64 (m (c.tc.loc main_arg12)) shapeCasts_S2x64x1x1_S2x64)⟩] concatenates_S2x64_S2x64_S2x128_d1)⟩] concatenates_S2x128_S2x128_S4x128_d0) : Vec Ideal S4x128 .f32) bitsLt_bf16_f32 : Vec Ideal S4x128 .bf16) := by
  show StableHlo.after hostOps0 (fun b => m (c, b)) (Proc.tc.devRef main_v20) = _
  after_results
  rfl

/-- Before the kernel starts, the host leaves in `main_v23` the two offset heads' second biases, one above the other. -/
theorem entry9 : V m c main_v23 = (shapeCast S4x1 (concatenate S4 0 [⟨S2, (m (c.tc.loc main_arg9))⟩, ⟨S2, (m (c.tc.loc main_arg13))⟩] concatenates_S2_S2_S4_d0) shapeCasts_S4_S4x1 : Vec Ideal S4x1 .f32) := by
  show StableHlo.after hostOps0 (fun b => m (c, b)) (Proc.tc.devRef main_v23) = _
  after_results
  rfl

/-- A grid point's block of the first operand is one image. -/
theorem blk0 (t : Fin cfg0.N) (ch : Fin 64) (p : Fin 16000) : iblk m c 0 t (ix3 (0 : Fin 1) ch p) = V m c main_v24 (ix3 (image t) ch p) := by
  have e : ∀ t : Fin cfg0.N, win0_0.index t = ![t.val, 0, 0] := (by decide +kernel : ∀ t : Fin grid0.N, _)
  blk_ext [iblk, e, image]

/-- A grid point's block of the second operand is one image. -/
theorem blk1 (t : Fin cfg0.N) (ch : Fin 64) (p : Fin 16000) : iblk m c 1 t (ix3 (0 : Fin 1) ch p) = V m c main_v25 (ix3 (image t) ch p) := by
  have e : ∀ t : Fin cfg0.N, win0_1.index t = ![t.val, 0, 0] := (by decide +kernel : ∀ t : Fin grid0.N, _)
  blk_ext [iblk, e, image]

/-- Window 2's block is its whole array. -/
theorem blk2 (t : Fin cfg0.N) (i : Fin 64) (j : Fin 576) : iblk m c 2 t (ix2 i j) = V m c main_v2 (ix2 i j) := by
  have e : ∀ t : Fin cfg0.N, win0_2.index t = ![0, 0] := (by decide +kernel : ∀ t : Fin grid0.N, _)
  blk_ext [iblk, e]

/-- Window 3's block is its whole array. -/
theorem blk3 (t : Fin cfg0.N) (i : Fin 64) (j : Fin 1) : iblk m c 3 t (ix2 i j) = V m c main_v9 (ix2 i j) := by
  have e : ∀ t : Fin cfg0.N, win0_3.index t = ![0, 0] := (by decide +kernel : ∀ t : Fin grid0.N, _)
  blk_ext [iblk, e]

/-- Window 4's block is its whole array. -/
theorem blk4 (t : Fin cfg0.N) (i : Fin 1) (j : Fin 64) : iblk m c 4 t (ix2 i j) = V m c main_v13 (ix2 i j) := by
  have e : ∀ t : Fin cfg0.N, win0_4.index t = ![0, 0] := (by decide +kernel : ∀ t : Fin grid0.N, _)
  blk_ext [iblk, e]

/-- Window 5's block is its whole array. -/
theorem blk5 (t : Fin cfg0.N) (i : Fin 1) (j : Fin 1) : iblk m c 5 t (ix2 i j) = V m c main_v21 (ix2 i j) := by
  have e : ∀ t : Fin cfg0.N, win0_5.index t = ![0, 0] := (by decide +kernel : ∀ t : Fin grid0.N, _)
  blk_ext [iblk, e]

/-- Window 6's block is its whole array. -/
theorem blk6 (t : Fin cfg0.N) (i : Fin 128) (j : Fin 576) : iblk m c 6 t (ix2 i j) = V m c main_v8 (ix2 i j) := by
  have e : ∀ t : Fin cfg0.N, win0_6.index t = ![0, 0] := (by decide +kernel : ∀ t : Fin grid0.N, _)
  blk_ext [iblk, e]

/-- Window 7's block is its whole array. -/
theorem blk7 (t : Fin cfg0.N) (i : Fin 128) (j : Fin 1) : iblk m c 7 t (ix2 i j) = V m c main_v11 (ix2 i j) := by
  have e : ∀ t : Fin cfg0.N, win0_7.index t = ![0, 0] := (by decide +kernel : ∀ t : Fin grid0.N, _)
  blk_ext [iblk, e]

/-- Window 8's block is its whole array. -/
theorem blk8 (t : Fin cfg0.N) (i : Fin 4) (j : Fin 128) : iblk m c 8 t (ix2 i j) = V m c main_v20 (ix2 i j) := by
  have e : ∀ t : Fin cfg0.N, win0_8.index t = ![0, 0] := (by decide +kernel : ∀ t : Fin grid0.N, _)
  blk_ext [iblk, e]

/-- Window 9's block is its whole array. -/
theorem blk9 (t : Fin cfg0.N) (i : Fin 4) (j : Fin 1) : iblk m c 9 t (ix2 i j) = V m c main_v23 (ix2 i j) := by
  have e : ∀ t : Fin cfg0.N, win0_9.index t = ![0, 0] := (by decide +kernel : ∀ t : Fin grid0.N, _)
  blk_ext [iblk, e]

/-- The first operand's block is the grid point's image, flattened. -/
theorem flat0 (t : Fin cfg0.N) : Flat (iblk m c 0 t) (m (c.tc.loc main_arg0)) (image t) := by
  intro ch p
  rw [blk0, entry0]
  pointwise

/-- The second operand's block is the grid point's image, flattened. -/
theorem flat1 (t : Fin cfg0.N) : Flat (iblk m c 1 t) (m (c.tc.loc main_arg1)) (image t) := by
  intro ch p
  rw [blk1, entry1]
  pointwise

/-- The weights of an output channel, laid out tap by tap, the channels of a tap side by side. -/
theorem row_flat (W : Vec Ideal S64x64x3x3 .f32) (j : Fin 64) :
    Row (fun r => shapeCast S64x576 (transpose S64x3x3x64 [0, 2, 3, 1] W transposes_S64x64x3x3_S64x3x3x64_0_2_3_1) shapeCasts_S64x3x3x64_S64x576 (ix2 j r)) W j := by
  intro k ch
  pointwise
  refine congrArg₂ (fun a d => W (ix4 j ch a d)) (Fin.ext ?_) (Fin.ext ?_)
  · show (k.val * 64 + ch.val) / 192 = k.val / 3
    omega
  · show (k.val * 64 + ch.val) / 64 % 3 = k.val % 3
    omega

/-- The keypoint head's first weights. -/
theorem row2 (t : Fin cfg0.N) (j : Fin 64) : Row (fun r => iblk m c 2 t (ix2 j r)) (m (c.tc.loc main_arg2)) j := by
  have h := row_flat (m (c.tc.loc main_arg2)) j
  simp only [blk2, entry2]
  exact h

/-- The first offset head's first weights are the first 64 rows. -/
theorem row6 (t : Fin cfg0.N) (j : Fin 64) : Row (fun r => iblk m c 6 t (ix2 (⟨j.val, by omega⟩ : Fin 128) r)) (m (c.tc.loc main_arg6)) j := by
  have h := row_flat (m (c.tc.loc main_arg6)) j
  intro k ch
  refine Eq.trans ?_ (h k ch)
  show iblk m c 6 t (ix2 _ _) = _
  rw [blk6, entry6]
  pointwise

/-- The second offset head's first weights are the last 64 rows. -/
theorem row6' (t : Fin cfg0.N) (j : Fin 64) : Row (fun r => iblk m c 6 t (ix2 (⟨64 + j.val, by omega⟩ : Fin 128) r)) (m (c.tc.loc main_arg10)) j := by
  have h := row_flat (m (c.tc.loc main_arg10)) j
  intro k ch
  refine Eq.trans ?_ (h k ch)
  show iblk m c 6 t (ix2 _ _) = _
  rw [blk6, entry6]
  pointwise

/-- The keypoint head's first bias. -/
theorem bias3 (t : Fin cfg0.N) (j : Fin 64) : iblk m c 3 t (ix2 j (0 : Fin 1)) = m (c.tc.loc main_arg3) (ix1 j) := by
  rw [blk3, entry3]
  pointwise

/-- The keypoint head's second weights. -/
theorem last4 (t : Fin cfg0.N) (j : Fin 64) : iblk m c 4 t (ix2 (0 : Fin 1) j) = m (c.tc.loc main_arg4) (ix4 (0 : Fin 1) j (0 : Fin 1) (0 : Fin 1)) := by
  rw [blk4, entry4]
  pointwise

/-- The keypoint head's second bias. -/
theorem bias5 (t : Fin cfg0.N) : iblk m c 5 t (ix2 (0 : Fin 1) (0 : Fin 1)) = m (c.tc.loc main_arg5) (ix1 (0 : Fin 1)) := by
  rw [blk5, entry5]
  pointwise

/-- The first offset head's first bias. -/
theorem bias7 (t : Fin cfg0.N) (j : Fin 64) : iblk m c 7 t (ix2 (⟨j.val, by omega⟩ : Fin 128) (0 : Fin 1)) = m (c.tc.loc main_arg7) (ix1 j) := by
  rw [blk7, entry7]
  pointwise

/-- The second offset head's first bias. -/
theorem bias7' (t : Fin cfg0.N) (j : Fin 64) : iblk m c 7 t (ix2 (⟨64 + j.val, by omega⟩ : Fin 128) (0 : Fin 1)) = m (c.tc.loc main_arg11) (ix1 j) := by
  rw [blk7, entry7]
  pointwise

/-- The second weights of the two offset heads: the first two rows, first 64 columns, are the first head's. -/
theorem last8 (t : Fin cfg0.N) (o : Fin 2) (j : Fin 64) :
    iblk m c 8 t (ix2 (⟨o.val, by omega⟩ : Fin 4) (⟨j.val, by omega⟩ : Fin 128)) = m (c.tc.loc main_arg8) (ix4 o j (0 : Fin 1) (0 : Fin 1)) := by
  rw [blk8, entry8]
  pointwise

/-- The first two rows, last 64 columns, are zero. -/
theorem last8_right (t : Fin cfg0.N) (o : Fin 2) (j : Fin 64) :
    iblk m c 8 t (ix2 (⟨o.val, by omega⟩ : Fin 4) (⟨64 + j.val, by omega⟩ : Fin 128)) = (0 : EReal) := by
  rw [blk8, entry8]
  pointwise

/-- The last two rows, first 64 columns, are zero. -/
theorem last8_left (t : Fin cfg0.N) (o : Fin 2) (j : Fin 64) :
    iblk m c 8 t (ix2 (⟨2 + o.val, by omega⟩ : Fin 4) (⟨j.val, by omega⟩ : Fin 128)) = (0 : EReal) := by
  rw [blk8, entry8]
  pointwise

/-- The last two rows, last 64 columns, are the second head's. -/
theorem last8' (t : Fin cfg0.N) (o : Fin 2) (j : Fin 64) :
    iblk m c 8 t (ix2 (⟨2 + o.val, by omega⟩ : Fin 4) (⟨64 + j.val, by omega⟩ : Fin 128)) = m (c.tc.loc main_arg12) (ix4 o j (0 : Fin 1) (0 : Fin 1)) := by
  rw [blk8, entry8]
  pointwise

/-- The first offset head's second bias. -/
theorem bias9 (t : Fin cfg0.N) (o : Fin 2) : iblk m c 9 t (ix2 (⟨o.val, by omega⟩ : Fin 4) (0 : Fin 1)) = m (c.tc.loc main_arg9) (ix1 o) := by
  rw [blk9, entry9]
  pointwise

/-- The second offset head's second bias. -/
theorem bias9' (t : Fin cfg0.N) (o : Fin 2) : iblk m c 9 t (ix2 (⟨2 + o.val, by omega⟩ : Fin 4) (0 : Fin 1)) = m (c.tc.loc main_arg13) (ix1 o) := by
  rw [blk9, entry9]
  pointwise

end Cert.Tie

end
-- ==== Proof.Arrays.lean ====
module

public import proofs.«01_k».proof.Proof.Reads

@[expose] public section

set_option maxRecDepth 16384

/-! What the kernel's two output arrays hold after the run, in terms of the arguments, and the three results cut out of them. -/

noncomputable section

namespace Cert.Tie

open Idealize.ShloMosaic Idealize.ShloMosaic.TcCoe Idealize.SL.Sem
open Cert.KernelIdeal Cert.KernelIdeal.Gen Cert.KernelIdeal.Pad Cert.KernelIdeal.Body Cert.ReferenceIdeal.Conv

variable (m : (ℓ : Loc nD τ sig) → Buf (Elt Ideal) ℓ) (c : Dev nD)

/-- The keypoint map at image `b`, row `r`, column `s`. -/
def kpAt (b : Fin 32) (r : Fin 80) (s : Fin 200) : EReal :=
  squash (headR (m (c.tc.loc main_arg0)) (m (c.tc.loc main_arg2)) (m (c.tc.loc main_arg3))
    (fun j => m (c.tc.loc main_arg4) (ix4 (0 : Fin 1) j (0 : Fin 1) (0 : Fin 1))) (m (c.tc.loc main_arg5) (ix1 (0 : Fin 1))) b r s)

/-- The points' offset `o` at image `b`, row `r`, column `s`. -/
def offAt (b : Fin 32) (o : Fin 2) (r : Fin 80) (s : Fin 200) : EReal :=
  headR (m (c.tc.loc main_arg1)) (m (c.tc.loc main_arg6)) (m (c.tc.loc main_arg7))
    (fun j => m (c.tc.loc main_arg8) (ix4 o j (0 : Fin 1) (0 : Fin 1))) (m (c.tc.loc main_arg9) (ix1 o)) b r s

/-- The integer offset `o` at image `b`, row `r`, column `s`. -/
def regAt (b : Fin 32) (o : Fin 2) (r : Fin 80) (s : Fin 200) : EReal :=
  headR (m (c.tc.loc main_arg1)) (m (c.tc.loc main_arg10)) (m (c.tc.loc main_arg11))
    (fun j => m (c.tc.loc main_arg12) (ix4 o j (0 : Fin 1) (0 : Fin 1))) (m (c.tc.loc main_arg13) (ix1 o)) b r s

/-- The row of the image a flat position lies in. -/
def rowOf (n : Fin 16000) : Fin 80 := ⟨n.val / 200, by omega⟩

/-- The column of the image a flat position lies in. -/
def colOf (n : Fin 16000) : Fin 200 := ⟨n.val % 200, by omega⟩

/-- A flat position is its row times the width plus its column. -/
theorem flat_pos (n : Fin 16000) : n.val = (rowOf n).val * 200 + (colOf n).val := by
  show n.val = n.val / 200 * 200 + n.val % 200
  omega

/-- A grid point's keypoint block, from its input blocks. -/
theorem outs_kp (t : Fin cfg0.N) : (outsAt0 m c t).1 = kp (iblk m c 0 t) (iblk m c 2 t) (iblk m c 3 t) (iblk m c 4 t) (iblk m c 5 t) := by
  unfold outsAt0
  dsimp only
  rw [out_kp]

/-- A grid point's offsets block, from its input blocks. -/
theorem outs_offs (t : Fin cfg0.N) : (outsAt0 m c t).2 = offs (iblk m c 1 t) (iblk m c 6 t) (iblk m c 7 t) (iblk m c 8 t) (iblk m c 9 t) := by
  unfold outsAt0
  dsimp only
  rw [out_offs]

/-- What a grid point writes to its keypoint block. -/
theorem point_kp (t : Fin cfg0.N) (n : Fin 16000) :
    (outsAt0 m c t).1 (ix3 (0 : Fin 1) (0 : Fin 1) n) = kpAt m c (image t) (rowOf n) (colOf n) := by
  rw [outs_kp]
  refine congrArg squash ?_
  show head _ _ _ _ (col (iblk m c 0 t) n.val) = _
  rw [flat_pos n, head_eq (flat0 m c t) (row2 m c t) (bias3 m c t), bias5]
  simp only [last4]

/-- What a grid point writes to the first two channels of its offsets block. -/
theorem point_off (t : Fin cfg0.N) (o : Fin 2) (n : Fin 16000) :
    (outsAt0 m c t).2 (ix3 (0 : Fin 1) (⟨o.val, by omega⟩ : Fin 4) n) = offAt m c (image t) o (rowOf n) (colOf n) := by
  rw [outs_offs]
  show head (fun j r => iblk m c 6 t (ix2 j r)) (fun j => iblk m c 7 t (ix2 j (0 : Fin 1))) (fun j => iblk m c 8 t (ix2 (⟨o.val, by omega⟩ : Fin 4) j))
    (iblk m c 9 t (ix2 (⟨o.val, by omega⟩ : Fin 4) (0 : Fin 1))) (col (iblk m c 1 t) n.val) = _
  rw [head_first (last8_right m c t o), flat_pos n, head_eq (flat1 m c t) (row6 m c t) (bias7 m c t), bias9]
  simp only [last8]
  rfl

/-- What a grid point writes to the last two channels of its offsets block. -/
theorem point_reg (t : Fin cfg0.N) (o : Fin 2) (n : Fin 16000) :
    (outsAt0 m c t).2 (ix3 (0 : Fin 1) (⟨2 + o.val, by omega⟩ : Fin 4) n) = regAt m c (image t) o (rowOf n) (colOf n) := by
  rw [outs_offs]
  show head (fun j r => iblk m c 6 t (ix2 j r)) (fun j => iblk m c 7 t (ix2 j (0 : Fin 1))) (fun j => iblk m c 8 t (ix2 (⟨2 + o.val, by omega⟩ : Fin 4) j))
    (iblk m c 9 t (ix2 (⟨2 + o.val, by omega⟩ : Fin 4) (0 : Fin 1))) (col (iblk m c 1 t) n.val) = _
  rw [head_second (last8_left m c t o), flat_pos n, head_eq (flat1 m c t) (row6' m c t) (bias7' m c t), bias9']
  simp only [last8']
  rfl

/-- The keypoint array after the run. -/
theorem arr10 : (dats m 0 c).arrAt 10 cfg0.N
    = (fun i : S32x1x16000.Idx => kpAt m c (i 0) (rowOf (i 2)) (colOf (i 2)) : Vec Ideal S32x1x16000 .f32) := by
  refine (dats m 0 c).arrAt_eq_of_covers 10 _ (by decide +kernel) fun t hf y => ?_
  blk_simp
  rw [after0_10]
  have e : ∀ t : Fin cfg0.N, win0_10.index t = ![t.val, 0, 0] := (by decide +kernel : ∀ t : Fin grid0.N, _)
  obtain ⟨a, o, n, rfl⟩ : ∃ (a : Fin 1) (o : Fin 1) (n : Fin 16000), y = ix3 a o n := ⟨y 0, y 1, y 2, eq_ix3 y⟩
  obtain rfl : a = 0 := Subsingleton.elim _ _
  obtain rfl : o = 0 := Subsingleton.elim _ _
  rw [point_kp]
  have h : (win0_10.blk t).view.emb (ix3 (0 : Fin 1) (0 : Fin 1) n) = ix3 (image t) (0 : Fin 1) n := by
    blk_ext [e, image]
  rw [h]
  rfl

/-- The offsets array after the run. -/
theorem arr11 : (dats m 0 c).arrAt 11 cfg0.N
    = (fun i : S32x4x16000.Idx => if h : (i 1).val < 2 then offAt m c (i 0) (⟨(i 1).val, h⟩ : Fin 2) (rowOf (i 2)) (colOf (i 2))
        else regAt m c (i 0) (⟨(i 1).val - 2, by have := (i 1).isLt; change _ < 4 at this; omega⟩ : Fin 2) (rowOf (i 2)) (colOf (i 2)) : Vec Ideal S32x4x16000 .f32) := by
  refine (dats m 0 c).arrAt_eq_of_covers 11 _ (by decide +kernel) fun t hf y => ?_
  have e : ∀ t : Fin cfg0.N, win0_11.index t = ![t.val, 0, 0] := (by decide +kernel : ∀ t : Fin grid0.N, _)
  obtain ⟨a, o, n, rfl⟩ : ∃ (a : Fin 1) (o : Fin 4) (n : Fin 16000), y = ix3 a o n := ⟨y 0, y 1, y 2, eq_ix3 y⟩
  obtain rfl : a = 0 := Subsingleton.elim _ _
  have h : (win0_11.blk t).view.emb (ix3 (0 : Fin 1) o n) = ix3 (image t) o n := by
    blk_ext [e, image]
  rw [show ((cfg0.win 11).blk t).view.emb (ix3 (0 : Fin 1) o n) = _ from h]
  blk_simp
  rw [after0_11]
  by_cases ho : o.val < 2
  · refine Eq.trans ?_ (dif_pos ho).symm
    exact point_off m c t (⟨o.val, ho⟩ : Fin 2) n
  · refine Eq.trans ?_ (dif_neg ho).symm
    refine Eq.trans ?_ (point_reg m c t (⟨o.val - 2, by omega⟩ : Fin 2) n)
    refine congrArg (fun o => (outsAt0 m c t).2 (ix3 (0 : Fin 1) o n)) (Fin.ext ?_)
    show o.val = 2 + (o.val - 2)
    omega

end Cert.Tie

end
-- ==== Proof.Tail.lean ====
module

public import proofs.«01_k».proof.Proof.Arrays

@[expose] public section

set_option maxRecDepth 16384

/-! The kernel's three results, cut out of its two output arrays, are the reference's. -/

noncomputable section

namespace Cert.Tie

open Idealize.ShloMosaic Idealize.ShloMosaic.TcCoe Idealize.SL.Sem
open Cert.KernelIdeal Cert.KernelIdeal.Gen Cert.KernelIdeal.Pad Cert.KernelIdeal.Body Cert.ReferenceIdeal.Conv

variable (m : (ℓ : Loc nD τ sig) → Buf (Elt Ideal) ℓ) (c : Dev nD)

/-- The row of the flat position made from a row and a column. -/
theorem rowOf_flat (r : Fin 80) (s : Fin 200) (h : r.val * 200 + s.val < 16000) : rowOf ⟨r.val * 200 + s.val, h⟩ = r :=
  Fin.ext (by show (r.val * 200 + s.val) / 200 = r.val; omega)

/-- The column of the flat position made from a row and a column. -/
theorem colOf_flat (r : Fin 80) (s : Fin 200) (h : r.val * 200 + s.val < 16000) : colOf ⟨r.val * 200 + s.val, h⟩ = s :=
  Fin.ext (by show (r.val * 200 + s.val) % 200 = s.val; omega)

/-- No two windows share an array. -/
theorem arrays_apart : Function.Injective (Pipeline.arrRef spec0) := by
  decide +kernel

/-- What the host's last lines find: every buffer as the kernel leaves it. -/
abbrev left : Valuation τ sig (Elt Ideal) :=
  Pipeline.withArrays (cfgs 0).spec c (V0 m c) fun w => (dats m 0 c).arrAt w (cfgs 0).N

/-- After the kernel the keypoint array is the one its grid points wrote. -/
theorem left10 : left m c (Proc.tc.devRef main_v26_0) = (dats m 0 c).arrAt 10 cfg0.N :=
  Pipeline.withArrays_arr spec0 arrays_apart c (V0 m c) (fun w => (dats m 0 c).arrAt w (cfgs 0).N) 10

/-- After the kernel the offsets array is the one its grid points wrote. -/
theorem left11 : left m c (Proc.tc.devRef main_v26_1) = (dats m 0 c).arrAt 11 cfg0.N :=
  Pipeline.withArrays_arr spec0 arrays_apart c (V0 m c) (fun w => (dats m 0 c).arrAt w (cfgs 0).N) 11

/-- The first result is the keypoint map at every element. -/
theorem tail27 (b : Fin 32) (o : Fin 1) (r : Fin 80) (s : Fin 200) :
    (Pipeline.afterTail₀ cfgs (dats m) 0 (V0 m) [hostOps1] c main_v27 : Vec Ideal S32x1x80x200 .f32) (ix4 b o r s) = kpAt m c b r s := by
  have h : Pipeline.afterTail₀ cfgs (dats m) 0 (V0 m) [hostOps1] c main_v27
      = (shapeCast S32x1x80x200 (left m c (Proc.tc.devRef main_v26_0)) shapeCasts_S32x1x16000_S32x1x80x200 : Vec Ideal S32x1x80x200 .f32) := by
    unfold Pipeline.afterTail₀
    show StableHlo.after hostOps1 (left m c) (Proc.tc.devRef main_v27) = _
    after_results
    rfl
  rw [h, left10, arr10]
  pointwise
  rw [rowOf_flat, colOf_flat]

/-- The second result is the points' offsets at every element. -/
theorem tail29 (b : Fin 32) (o : Fin 2) (r : Fin 80) (s : Fin 200) :
    (Pipeline.afterTail₀ cfgs (dats m) 0 (V0 m) [hostOps1] c main_v29 : Vec Ideal S32x2x80x200 .f32) (ix4 b o r s) = offAt m c b o r s := by
  have h : Pipeline.afterTail₀ cfgs (dats m) 0 (V0 m) [hostOps1] c main_v29
      = (shapeCast S32x2x80x200 (extractStridedSlice S32x2x16000 ![0, 0, 0] (left m c (Proc.tc.devRef main_v26_1)) slices_S32x4x16000_S32x2x16000_0_0_0)
          shapeCasts_S32x2x16000_S32x2x80x200 : Vec Ideal S32x2x80x200 .f32) := by
    unfold Pipeline.afterTail₀
    show StableHlo.after hostOps1 (left m c) (Proc.tc.devRef main_v29) = _
    after_results
    rfl
  rw [h, left11, arr11]
  pointwise
  rw [rowOf_flat, colOf_flat]

/-- The third result is the integer offsets at every element. -/
theorem tail31 (b : Fin 32) (o : Fin 2) (r : Fin 80) (s : Fin 200) :
    (Pipeline.afterTail₀ cfgs (dats m) 0 (V0 m) [hostOps1] c main_v31 : Vec Ideal S32x2x80x200 .f32) (ix4 b o r s) = regAt m c b o r s := by
  have h : Pipeline.afterTail₀ cfgs (dats m) 0 (V0 m) [hostOps1] c main_v31
      = (shapeCast S32x2x80x200 (extractStridedSlice S32x2x16000 ![0, 2, 0] (left m c (Proc.tc.devRef main_v26_1)) slices_S32x4x16000_S32x2x16000_0_2_0)
          shapeCasts_S32x2x16000_S32x2x80x200 : Vec Ideal S32x2x80x200 .f32) := by
    unfold Pipeline.afterTail₀
    show StableHlo.after hostOps1 (left m c) (Proc.tc.devRef main_v31) = _
    after_results
    rfl
  rw [h, left11, arr11]
  pointwise
  rw [rowOf_flat, colOf_flat]

end Cert.Tie

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Read
public import proofs.«01_k».proof.Proof.Gen.ReferenceIdeal.Run
public import proofs.«01_k».proof.Proof.Tail
public import Idealize.ShloMosaic.Lib.Claim

@[expose] public section

set_option maxRecDepth 16384

noncomputable section

namespace Cert.Proof

open Idealize.ShloMosaic Idealize.SL.Sem Cert.Kernel

/-- The reference runs to its end from any launch memory, its arguments unchanged and its semaphores at zero. -/
theorem reference_frame : Cert.quiescent_ReferenceIdeal (hReferenceIdeal := Cert.ReferenceIdeal.Gen.facts) := by
  unfold Cert.quiescent_ReferenceIdeal
  intro m ρ _
  exact θ_run_mono (Cert.ReferenceIdeal.Value.run m ρ) fun r h =>
    ⟨fun c => (h c).2.2.2, sem_eq_zero_of_no_sems (by decide) r.2⟩

/-- The keypoint map: the reference's is the kernel's. -/
theorem kp_tie (m : (ℓ : Loc Cert.KernelIdeal.nD Cert.KernelIdeal.τ Cert.KernelIdeal.sig) → Buf (Elt Ideal) ℓ) (c : Dev Cert.KernelIdeal.nD) :
    Cert.ReferenceIdeal.Read.val_main_v72 (F := Ideal) (m (c.tc.loc Cert.KernelIdeal.main_arg0)) (m (c.tc.loc Cert.KernelIdeal.main_arg2))
        (m (c.tc.loc Cert.KernelIdeal.main_arg3)) (m (c.tc.loc Cert.KernelIdeal.main_arg4)) (m (c.tc.loc Cert.KernelIdeal.main_arg5))
      = Pipeline.afterTail₀ Cert.KernelIdeal.cfgs (Cert.KernelIdeal.Gen.dats m) 0 (Cert.KernelIdeal.Gen.V0 m) [Cert.KernelIdeal.Gen.hostOps1] c
          Cert.KernelIdeal.main_v27 := by
  funext i
  obtain ⟨b, o, r, s, rfl⟩ : ∃ (b : Fin 32) (o : Fin 1) (r : Fin 80) (s : Fin 200), i = ix4 b o r s := ⟨i 0, i 1, i 2, i 3, eq_ix4 i⟩
  exact (Cert.ReferenceIdeal.Conv.res_kp _ _ _ _ _ b o r s).trans (Cert.Tie.tail27 m c b o r s).symm

/-- The points' offsets: the reference's are the kernel's. -/
theorem off_tie (m : (ℓ : Loc Cert.KernelIdeal.nD Cert.KernelIdeal.τ Cert.KernelIdeal.sig) → Buf (Elt Ideal) ℓ) (c : Dev Cert.KernelIdeal.nD) :
    Cert.ReferenceIdeal.Read.val_main_v138 (F := Ideal) (m (c.tc.loc Cert.KernelIdeal.main_arg1)) (m (c.tc.loc Cert.KernelIdeal.main_arg6))
        (m (c.tc.loc Cert.KernelIdeal.main_arg7)) (m (c.tc.loc Cert.KernelIdeal.main_arg8)) (m (c.tc.loc Cert.KernelIdeal.main_arg9))
      = Pipeline.afterTail₀ Cert.KernelIdeal.cfgs (Cert.KernelIdeal.Gen.dats m) 0 (Cert.KernelIdeal.Gen.V0 m) [Cert.KernelIdeal.Gen.hostOps1] c
          Cert.KernelIdeal.main_v29 := by
  funext i
  obtain ⟨b, o, r, s, rfl⟩ : ∃ (b : Fin 32) (o : Fin 2) (r : Fin 80) (s : Fin 200), i = ix4 b o r s := ⟨i 0, i 1, i 2, i 3, eq_ix4 i⟩
  exact (Cert.ReferenceIdeal.Conv.res_off _ _ _ _ _ b o r s).trans (Cert.Tie.tail29 m c b o r s).symm

/-- The integer offsets: the reference's are the kernel's. -/
theorem reg_tie (m : (ℓ : Loc Cert.KernelIdeal.nD Cert.KernelIdeal.τ Cert.KernelIdeal.sig) → Buf (Elt Ideal) ℓ) (c : Dev Cert.KernelIdeal.nD) :
    Cert.ReferenceIdeal.Read.val_main_v204 (F := Ideal) (m (c.tc.loc Cert.KernelIdeal.main_arg1)) (m (c.tc.loc Cert.KernelIdeal.main_arg10))
        (m (c.tc.loc Cert.KernelIdeal.main_arg11)) (m (c.tc.loc Cert.KernelIdeal.main_arg12)) (m (c.tc.loc Cert.KernelIdeal.main_arg13))
      = Pipeline.afterTail₀ Cert.KernelIdeal.cfgs (Cert.KernelIdeal.Gen.dats m) 0 (Cert.KernelIdeal.Gen.V0 m) [Cert.KernelIdeal.Gen.hostOps1] c
          Cert.KernelIdeal.main_v31 := by
  funext i
  obtain ⟨b, o, r, s, rfl⟩ : ∃ (b : Fin 32) (o : Fin 2) (r : Fin 80) (s : Fin 200), i = ix4 b o r s := ⟨i 0, i 1, i 2, i 3, eq_ix4 i⟩
  exact (Cert.ReferenceIdeal.Conv.res_reg _ _ _ _ _ b o r s).trans (Cert.Tie.tail31 m c b o r s).symm

/-- From memories that agree on the arguments, the kernel and the reference end with the same three results. -/
theorem equal_results : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g
    · exact Cert.KernelIdeal.Gen.W_main_arg0 m _ c
    · exact Cert.KernelIdeal.Gen.W_main_arg1 m _ c
    · exact Cert.KernelIdeal.Gen.W_main_arg2 m _ c
    · exact Cert.KernelIdeal.Gen.W_main_arg3 m _ c
    · exact Cert.KernelIdeal.Gen.W_main_arg4 m _ c
    · exact Cert.KernelIdeal.Gen.W_main_arg5 m _ c
    · exact Cert.KernelIdeal.Gen.W_main_arg6 m _ c
    · exact Cert.KernelIdeal.Gen.W_main_arg7 m _ c
    · exact Cert.KernelIdeal.Gen.W_main_arg8 m _ c
    · exact Cert.KernelIdeal.Gen.W_main_arg9 m _ c
    · exact Cert.KernelIdeal.Gen.W_main_arg10 m _ c
    · exact Cert.KernelIdeal.Gen.W_main_arg11 m _ c
    · exact Cert.KernelIdeal.Gen.W_main_arg12 m _ c
    · exact Cert.KernelIdeal.Gen.W_main_arg13 m _ c
  · run_from Cert.ReferenceIdeal.Value.run m' g'
    · obtain ⟨h0, h1, h2, h3, h4, h5, h6, h7, h8, h9, h10, h11, h12, h13⟩ := hagree c
      refine Eq.trans ?_ (kp_tie m c)
      rw [← h0, ← h2, ← h3, ← h4, ← h5]
      exact Cert.ReferenceIdeal.Read.val_main_v72_eq (F := Ideal) (StableHlo.launchContents m' c)
    · obtain ⟨h0, h1, h2, h3, h4, h5, h6, h7, h8, h9, h10, h11, h12, h13⟩ := hagree c
      refine Eq.trans ?_ (off_tie m c)
      rw [← h1, ← h6, ← h7, ← h8, ← h9]
      exact Cert.ReferenceIdeal.Read.val_main_v138_eq (F := Ideal) (StableHlo.launchContents m' c)
    · obtain ⟨h0, h1, h2, h3, h4, h5, h6, h7, h8, h9, h10, h11, h12, h13⟩ := hagree c
      refine Eq.trans ?_ (reg_tie m c)
      rw [← h1, ← h10, ← h11, ← h12, ← h13]
      exact Cert.ReferenceIdeal.Read.val_main_v204_eq (F := Ideal) (StableHlo.launchContents m' c)

/-- Everything claimed. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, equal_results⟩

end Cert.Proof

end
